-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_batch_in_range [hPre_batch_in_range : Cert.Pre_batch_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_batch_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_batch_in_range [hPre_batch_in_range : Cert.Pre_batch_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_batch_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_batch_in_range [hKernelIdeal : Cert.KernelIdeal.Facts] [hPre_batch_in_range : Cert.Pre_batch_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_batch_in_range m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_batch_in_range [hReferenceIdeal : Cert.ReferenceIdeal.Facts] [hPre_batch_in_range : Cert.Pre_batch_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_batch_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_batch_in_range [hKernelIdeal : Cert.KernelIdeal.Facts] [hReferenceIdeal : Cert.ReferenceIdeal.Facts] [hPre_batch_in_range : Cert.Pre_batch_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_batch_in_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v19)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v19) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v216) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_batch_in_range : Cert.Pre_batch_in_range.Facts),
    quiescent_Kernel (hKernel := hKernel)
    ∧ quiescent_KernelIdeal (hKernelIdeal := hKernelIdeal)
    ∧ quiescent_KernelIdeal_pre_batch_in_range (hKernelIdeal := hKernelIdeal) (hPre_batch_in_range := hPre_batch_in_range)
    ∧ quiescent_ReferenceIdeal (hReferenceIdeal := hReferenceIdeal)
    ∧ quiescent_ReferenceIdeal_pre_batch_in_range (hReferenceIdeal := hReferenceIdeal) (hPre_batch_in_range := hPre_batch_in_range)
    ∧ preserves_Kernel_KernelIdeal
    ∧ algebraic_KernelIdeal_ReferenceIdeal_pre_batch_in_range (hKernelIdeal := hKernelIdeal) (hReferenceIdeal := hReferenceIdeal) (hPre_batch_in_range := hPre_batch_in_range)
-- ==== Pre_batch_in_range.lean ====
abbrev S4x256x64x64 : Shape := ⟨4, ![4, 256, 64, 64]⟩
abbrev S1000x5 : Shape := ⟨2, ![1000, 5]⟩
abbrev S1000x1 : Shape := ⟨2, ![1000, 1]⟩
abbrev S_ : Shape := ⟨0, ![]⟩

class Facts : Prop where
  slices_S1000x5_S1000x1_0_0 : S1000x5.Slices ![0, 0] S1000x1
  bcast_S_S1000x1 : S_.BroadcastsInDim S1000x1 (![] : Fin 0 → Fin S1000x1.rank)

variable [Facts]

def fn {F : FTy → Type} [FloatOps F] (main_arg0 : FVec F S4x256x64x64 .f32) (main_arg1 : FVec F S1000x5 .f32) : IVec S1000x1 1 :=
  let main_v0 : FVec F S1000x1 .f32 := (extractStridedSlice S1000x1 ![0, 0] · slices_S1000x5_S1000x1_0_0) main_arg1
  let main_v1 : IVec S1000x1 32 := fptosi 32 main_v0
  let main_c : IVec S_ 32 := constantI S_ 32 0#32
  let main_v2 : IVec S1000x1 32 := broadcastInDim S1000x1 ![] bcast_S_S1000x1 main_c
  let main_v3 : IVec S1000x1 1 := cmpi .sge main_v1 main_v2
  let main_c_0 : IVec S_ 32 := constantI S_ 32 4#32
  let main_v4 : IVec S1000x1 32 := broadcastInDim S1000x1 ![] bcast_S_S1000x1 main_c_0
  let main_v5 : IVec S1000x1 1 := cmpi .slt main_v1 main_v4
  let main_v6 : IVec S1000x1 1 := andi main_v3 main_v5
  main_v6
-- ==== Kernel.lean ====
abbrev S4x256x64x64 : Shape := ⟨4, ![4, 256, 64, 64]⟩
abbrev S1000x5 : Shape := ⟨2, ![1000, 5]⟩
abbrev S_ : Shape := ⟨0, ![]⟩
abbrev S8x5 : Shape := ⟨2, ![8, 5]⟩
abbrev S1008x5 : Shape := ⟨2, ![1008, 5]⟩
abbrev S4x64x64x256 : Shape := ⟨4, ![4, 64, 64, 256]⟩
abbrev S256x16384 : Shape := ⟨2, ![256, 16384]⟩
abbrev S256 : Shape := ⟨1, ![256]⟩
abbrev S1x256 : Shape := ⟨2, ![1, 256]⟩
abbrev S1024 : Shape := ⟨1, ![1024]⟩
abbrev S1x1024 : Shape := ⟨2, ![1, 1024]⟩
abbrev S7x7x1008x256 : Shape := ⟨4, ![7, 7, 1008, 256]⟩
abbrev S16x5 : Shape := ⟨2, ![16, 5]⟩
abbrev S7x7x16x256 : Shape := ⟨4, ![7, 7, 16, 256]⟩
abbrev S64x112x256 : Shape := ⟨3, ![64, 112, 256]⟩
abbrev S16x1 : Shape := ⟨2, ![16, 1]⟩
abbrev S7x16x2 : Shape := ⟨3, ![7, 16, 2]⟩
abbrev S1x16x1 : Shape := ⟨3, ![1, 16, 1]⟩
abbrev S1x1x1x256 : Shape := ⟨4, ![1, 1, 1, 256]⟩
abbrev S7x16x2x1 : Shape := ⟨4, ![7, 16, 2, 1]⟩
abbrev S7x16x2x256 : Shape := ⟨4, ![7, 16, 2, 256]⟩
abbrev S7x16x256 : Shape := ⟨3, ![7, 16, 256]⟩
abbrev S112x256 : Shape := ⟨2, ![112, 256]⟩
abbrev S1x1x1x1024 : Shape := ⟨4, ![1, 1, 1, 1024]⟩
abbrev S7x16x2x1024 : Shape := ⟨4, ![7, 16, 2, 1024]⟩
abbrev S7x16x1024 : Shape := ⟨3, ![7, 16, 1024]⟩
abbrev S112x1024 : Shape := ⟨2, ![112, 1024]⟩
abbrev S256x256 : Shape := ⟨2, ![256, 256]⟩
abbrev S1x112x256 : Shape := ⟨3, ![1, 112, 256]⟩
abbrev S64x16x256 : Shape := ⟨3, ![64, 16, 256]⟩
abbrev S1024x256 : Shape := ⟨2, ![1024, 256]⟩
abbrev S1x7x16x256 : Shape := ⟨4, ![1, 7, 16, 256]⟩
abbrev S7x7x1000x256 : Shape := ⟨4, ![7, 7, 1000, 256]⟩
abbrev S1000x256x7x7 : Shape := ⟨4, ![1000, 256, 7, 7]⟩

abbrev nBuf : Space → Nat
  | .hbm => 70
  | .vmem => 8
  | .smem => 0
  | _ => 0

abbrev bufTy : (tb : Table) → Fin (tcTables nBuf tb) → BufTy
  | .hbm, ⟨0, _⟩ => ⟨S4x256x64x64, .f32⟩
  | .hbm, ⟨1, _⟩ => ⟨S1000x5, .f32⟩
  | .hbm, ⟨2, _⟩ => ⟨S_, .f32⟩
  | .hbm, ⟨3, _⟩ => ⟨S8x5, .f32⟩
  | .hbm, ⟨4, _⟩ => ⟨S1008x5, .f32⟩
  | .hbm, ⟨5, _⟩ => ⟨S4x64x64x256, .f32⟩
  | .hbm, ⟨6, _⟩ => ⟨S256x16384, .f32⟩
  | .hbm, ⟨7, _⟩ => ⟨S256x16384, .bf16⟩
  | .hbm, ⟨8, _⟩ => ⟨S256, .f32⟩
  | .hbm, ⟨9, _⟩ => ⟨S1x256, .f32⟩
  | .hbm, ⟨10, _⟩ => ⟨S1024, .f32⟩
  | .hbm, ⟨11, _⟩ => ⟨S_, .i32⟩
  | .hbm, ⟨12, _⟩ => ⟨S_, .f32⟩
  | .hbm, ⟨13, _⟩ => ⟨S1024, .f32⟩
  | .hbm, ⟨14, _⟩ => ⟨S1024, .f32⟩
  | .hbm, ⟨15, _⟩ => ⟨S_, .f32⟩
  | .hbm, ⟨16, _⟩ => ⟨S_, .i1⟩
  | .hbm, ⟨17, _⟩ => ⟨S1024, .f32⟩
  | .hbm, ⟨18, _⟩ => ⟨S1024, .f32⟩
  | .hbm, ⟨19, _⟩ => ⟨S1024, .f32⟩
  | .hbm, ⟨20, _⟩ => ⟨S1024, .f32⟩
  | .hbm, ⟨21, _⟩ => ⟨S_, .f32⟩
  | .hbm, ⟨22, _⟩ => ⟨S1024, .f32⟩
  | .hbm, ⟨23, _⟩ => ⟨S1024, .i1⟩
  | .hbm, ⟨24, _⟩ => ⟨S_, .f32⟩
  | .hbm, ⟨25, _⟩ => ⟨S1024, .f32⟩
  | .hbm, ⟨26, _⟩ => ⟨S1024, .f32⟩
  | .hbm, ⟨27, _⟩ => ⟨S1024, .i1⟩
  | .hbm, ⟨28, _⟩ => ⟨S1024, .i1⟩
  | .hbm, ⟨29, _⟩ => ⟨S1024, .f32⟩
  | .hbm, ⟨30, _⟩ => ⟨S1024, .f32⟩
  | .hbm, ⟨31, _⟩ => ⟨S1024, .f32⟩
  | .hbm, ⟨32, _⟩ => ⟨S_, .f32⟩
  | .hbm, ⟨33, _⟩ => ⟨S1024, .f32⟩
  | .hbm, ⟨34, _⟩ => ⟨S1024, .f32⟩
  | .hbm, ⟨35, _⟩ => ⟨S1024, .f32⟩
  | .hbm, ⟨36, _⟩ => ⟨S1024, .f32⟩
  | .hbm, ⟨37, _⟩ => ⟨S1024, .i32⟩
  | .hbm, ⟨38, _⟩ => ⟨S_, .i32⟩
  | .hbm, ⟨39, _⟩ => ⟨S_, .i32⟩
  | .hbm, ⟨40, _⟩ => ⟨S_, .i32⟩
  | .hbm, ⟨41, _⟩ => ⟨S_, .i1⟩
  | .hbm, ⟨42, _⟩ => ⟨S_, .i32⟩
  | .hbm, ⟨43, _⟩ => ⟨S_, .i32⟩
  | .hbm, ⟨44, _⟩ => ⟨S1024, .i32⟩
  | .hbm, ⟨45, _⟩ => ⟨S1024, .i32⟩
  | .hbm, ⟨46, _⟩ => ⟨S_, .i32⟩
  | .hbm, ⟨47, _⟩ => ⟨S1024, .i32⟩
  | .hbm, ⟨48, _⟩ => ⟨S1024, .i1⟩
  | .hbm, ⟨49, _⟩ => ⟨S_, .i32⟩
  | .hbm, ⟨50, _⟩ => ⟨S1024, .i32⟩
  | .hbm, ⟨51, _⟩ => ⟨S1024, .i1⟩
  | .hbm, ⟨52, _⟩ => ⟨S_, .i32⟩
  | .hbm, ⟨53, _⟩ => ⟨S_, .i1⟩
  | .hbm, ⟨54, _⟩ => ⟨S1024, .i1⟩
  | .hbm, ⟨55, _⟩ => ⟨S1024, .i1⟩
  | .hbm, ⟨56, _⟩ => ⟨S1024, .i1⟩
  | .hbm, ⟨57, _⟩ => ⟨S1024, .i32⟩
  | .hbm, ⟨58, _⟩ => ⟨S1024, .i32⟩
  | .hbm, ⟨59, _⟩ => ⟨S1024, .i32⟩
  | .hbm, ⟨60, _⟩ => ⟨S1024, .f32⟩
  | .hbm, ⟨61, _⟩ => ⟨S_, .f32⟩
  | .hbm, ⟨62, _⟩ => ⟨S1024, .f32⟩
  | .hbm, ⟨63, _⟩ => ⟨S1024, .f32⟩
  | .hbm, ⟨64, _⟩ => ⟨S1024, .f32⟩
  | .hbm, ⟨65, _⟩ => ⟨S1x1024, .f32⟩
  | .hbm, ⟨66, _⟩ => ⟨S7x7x1008x256, .bf16⟩
  | .hbm, ⟨67, _⟩ => ⟨S7x7x1000x256, .bf16⟩
  | .hbm, ⟨68, _⟩ => ⟨S1000x256x7x7, .bf16⟩
  | .hbm, ⟨69, _⟩ => ⟨S1000x256x7x7, .f32⟩
  | .local _ .vmem, ⟨0, _⟩ => ⟨S256x16384, .bf16⟩
  | .local _ .vmem, ⟨1, _⟩ => ⟨S16x5, .f32⟩
  | .local _ .vmem, ⟨2, _⟩ => ⟨S16x5, .f32⟩
  | .local _ .vmem, ⟨3, _⟩ => ⟨S1x256, .f32⟩
  | .local _ .vmem, ⟨4, _⟩ => ⟨S1x1024, .f32⟩
  | .local _ .vmem, ⟨5, _⟩ => ⟨S7x7x16x256, .bf16⟩
  | .local _ .vmem, ⟨6, _⟩ => ⟨S7x7x16x256, .bf16⟩
  | .local _ .vmem, ⟨7, _⟩ => ⟨S64x112x256, .bf16⟩
  | _, _ => ⟨S4x256x64x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_c : Ref sig .tc := ⟨.hbm, 11, rfl⟩
abbrev main_call0_v0 : Ref sig .tc := ⟨.hbm, 12, rfl⟩
abbrev main_call0_v1 : Ref sig .tc := ⟨.hbm, 13, rfl⟩
abbrev main_call0_v2 : Ref sig .tc := ⟨.hbm, 14, rfl⟩
abbrev main_call0_cst : Ref sig .tc := ⟨.hbm, 15, rfl⟩
abbrev main_call0_v3 : Ref sig .tc := ⟨.hbm, 16, rfl⟩
abbrev main_call0_v4 : Ref sig .tc := ⟨.hbm, 17, rfl⟩
abbrev main_call0_v5 : Ref sig .tc := ⟨.hbm, 18, rfl⟩
abbrev main_call0_v6 : Ref sig .tc := ⟨.hbm, 19, rfl⟩
abbrev main_call0_v7 : Ref sig .tc := ⟨.hbm, 20, rfl⟩
abbrev main_call0_cst_0 : Ref sig .tc := ⟨.hbm, 21, rfl⟩
abbrev main_call0_v8 : Ref sig .tc := ⟨.hbm, 22, rfl⟩
abbrev main_call0_v9 : Ref sig .tc := ⟨.hbm, 23, rfl⟩
abbrev main_call0_v10 : Ref sig .tc := ⟨.hbm, 24, rfl⟩
abbrev main_call0_v11 : Ref sig .tc := ⟨.hbm, 25, rfl⟩
abbrev main_call0_v12 : Ref sig .tc := ⟨.hbm, 26, rfl⟩
abbrev main_call0_v13 : Ref sig .tc := ⟨.hbm, 27, rfl⟩
abbrev main_call0_v14 : Ref sig .tc := ⟨.hbm, 28, rfl⟩
abbrev main_call0_v15 : Ref sig .tc := ⟨.hbm, 29, rfl⟩
abbrev main_call0_v16 : Ref sig .tc := ⟨.hbm, 30, rfl⟩
abbrev main_call0_v17 : Ref sig .tc := ⟨.hbm, 31, rfl⟩
abbrev main_call0_cst_1 : Ref sig .tc := ⟨.hbm, 32, rfl⟩
abbrev main_call0_v18 : Ref sig .tc := ⟨.hbm, 33, rfl⟩
abbrev main_call0_v19 : Ref sig .tc := ⟨.hbm, 34, rfl⟩
abbrev main_call0_v20 : Ref sig .tc := ⟨.hbm, 35, rfl⟩
abbrev main_v8 : Ref sig .tc := ⟨.hbm, 36, rfl⟩
abbrev main_v9 : Ref sig .tc := ⟨.hbm, 37, rfl⟩
abbrev main_c_0 : Ref sig .tc := ⟨.hbm, 38, rfl⟩
abbrev main_call1_v0 : Ref sig .tc := ⟨.hbm, 39, rfl⟩
abbrev main_call1_c : Ref sig .tc := ⟨.hbm, 40, rfl⟩
abbrev main_call1_v1 : Ref sig .tc := ⟨.hbm, 41, rfl⟩
abbrev main_call1_c_0 : Ref sig .tc := ⟨.hbm, 42, rfl⟩
abbrev main_call1_v2 : Ref sig .tc := ⟨.hbm, 43, rfl⟩
abbrev main_call1_v3 : Ref sig .tc := ⟨.hbm, 44, rfl⟩
abbrev main_call1_v4 : Ref sig .tc := ⟨.hbm, 45, rfl⟩
abbrev main_call1_c_1 : Ref sig .tc := ⟨.hbm, 46, rfl⟩
abbrev main_call1_v5 : Ref sig .tc := ⟨.hbm, 47, rfl⟩
abbrev main_call1_v6 : Ref sig .tc := ⟨.hbm, 48, rfl⟩
abbrev main_call1_c_2 : Ref sig .tc := ⟨.hbm, 49, rfl⟩
abbrev main_call1_v7 : Ref sig .tc := ⟨.hbm, 50, rfl⟩
abbrev main_call1_v8 : Ref sig .tc := ⟨.hbm, 51, rfl⟩
abbrev main_call1_c_3 : Ref sig .tc := ⟨.hbm, 52, rfl⟩
abbrev main_call1_v9 : Ref sig .tc := ⟨.hbm, 53, rfl⟩
abbrev main_call1_v10 : Ref sig .tc := ⟨.hbm, 54, rfl⟩
abbrev main_call1_v11 : Ref sig .tc := ⟨.hbm, 55, rfl⟩
abbrev main_call1_v12 : Ref sig .tc := ⟨.hbm, 56, rfl⟩
abbrev main_call1_v13 : Ref sig .tc := ⟨.hbm, 57, rfl⟩
abbrev main_call1_v14 : Ref sig .tc := ⟨.hbm, 58, rfl⟩
abbrev main_v10 : Ref sig .tc := ⟨.hbm, 59, rfl⟩
abbrev main_v11 : Ref sig .tc := ⟨.hbm, 60, rfl⟩
abbrev main_cst_1 : Ref sig .tc := ⟨.hbm, 61, rfl⟩
abbrev main_v12 : Ref sig .tc := ⟨.hbm, 62, rfl⟩
abbrev main_v13 : Ref sig .tc := ⟨.hbm, 63, rfl⟩
abbrev main_v14 : Ref sig .tc := ⟨.hbm, 64, rfl⟩
abbrev main_v15 : Ref sig .tc := ⟨.hbm, 65, rfl⟩
abbrev main_v16 : Ref sig .tc := ⟨.hbm, 66, rfl⟩
abbrev main_v17 : Ref sig .tc := ⟨.hbm, 67, rfl⟩
abbrev main_v18 : Ref sig .tc := ⟨.hbm, 68, rfl⟩
abbrev main_v19 : Ref sig .tc := ⟨.hbm, 69, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_scratch0 : Ref sig .tc := ⟨.vmem, 7, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![63], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, arg0.toNat, c0_i32_1.toNat]

abbrev stage0_0 : Fin 1 → Memref sig .tc .vmem S256x16384 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S16x5 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S7x7x16x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ReferenceIdeal.lean ====
abbrev S4x256x64x64 : Shape := ⟨4, ![4, 256, 64, 64]⟩
abbrev S1000x5 : Shape := ⟨2, ![1000, 5]⟩
abbrev S1000x1 : Shape := ⟨2, ![1000, 1]⟩
abbrev S1000 : Shape := ⟨1, ![1000]⟩
abbrev S_ : Shape := ⟨0, ![]⟩
abbrev S7 : Shape := ⟨1, ![7]⟩
abbrev S2 : Shape := ⟨1, ![2]⟩
abbrev S1000x1x1 : Shape := ⟨3, ![1000, 1, 1]⟩
abbrev S1x7x1 : Shape := ⟨3, ![1, 7, 1]⟩
abbrev S1000x7x1 : Shape := ⟨3, ![1000, 7, 1]⟩
abbrev S1x1x2 : Shape := ⟨3, ![1, 1, 2]⟩
abbrev S1000x1x2 : Shape := ⟨3, ![1000, 1, 2]⟩
abbrev S1000x7x2 : Shape := ⟨3, ![1000, 7, 2]⟩
abbrev S1000x7x1x2x1 : Shape := ⟨5, ![1000, 7, 1, 2, 1]⟩
abbrev S1000x7x7x2x2 : Shape := ⟨5, ![1000, 7, 7, 2, 2]⟩
abbrev S1000x1x7x1x2 : Shape := ⟨5, ![1000, 1, 7, 1, 2]⟩
abbrev S1000x196 : Shape := ⟨2, ![1000, 196]⟩
abbrev S4x256x4096 : Shape := ⟨3, ![4, 256, 4096]⟩
abbrev S1000x196x1 : Shape := ⟨3, ![1000, 196, 1]⟩
abbrev S1000x196x2 : Shape := ⟨3, ![1000, 196, 2]⟩
abbrev S1000x196x256 : Shape := ⟨3, ![1000, 196, 256]⟩
abbrev S1000x7x7x4x256 : Shape := ⟨5, ![1000, 7, 7, 4, 256]⟩
abbrev S1000x7x7x256 : Shape := ⟨4, ![1000, 7, 7, 256]⟩
abbrev S1000x256x7x7 : Shape := ⟨4, ![1000, 256, 7, 7]⟩

abbrev nBuf : Space → Nat
  | .hbm => 287
  | .vmem => 0
  | .smem => 0
  | _ => 0

abbrev hbmTy0_0 (i : Nat) : BufTy := match i % 128 with
  | 0 => ⟨S4x256x64x64, .f32⟩
  | 1 => ⟨S1000x5, .f32⟩
  | 2 => ⟨S1000x1, .f32⟩
  | 3 => ⟨S1000, .f32⟩
  | 4 => ⟨S1000, .i32⟩
  | 5 => ⟨S1000x1, .f32⟩
  | 6 => ⟨S1000, .f32⟩
  | 7 => ⟨S_, .f32⟩
  | 8 => ⟨S1000, .f32⟩
  | 9 => ⟨S1000, .f32⟩
  | 10 => ⟨S1000x1, .f32⟩
  | 11 => ⟨S1000, .f32⟩
  | 12 => ⟨S_, .f32⟩
  | 13 => ⟨S1000, .f32⟩
  | 14 => ⟨S1000, .f32⟩
  | 15 => ⟨S1000x1, .f32⟩
  | 16 => ⟨S1000, .f32⟩
  | 17 => ⟨S_, .f32⟩
  | 18 => ⟨S1000, .f32⟩
  | 19 => ⟨S1000, .f32⟩
  | 20 => ⟨S1000x1, .f32⟩
  | 21 => ⟨S1000, .f32⟩
  | 22 => ⟨S_, .f32⟩
  | 23 => ⟨S1000, .f32⟩
  | 24 => ⟨S1000, .f32⟩
  | 25 => ⟨S1000, .f32⟩
  | 26 => ⟨S_, .f32⟩
  | 27 => ⟨S1000, .f32⟩
  | 28 => ⟨S1000, .f32⟩
  | 29 => ⟨S1000, .f32⟩
  | 30 => ⟨S_, .f32⟩
  | 31 => ⟨S1000, .f32⟩
  | 32 => ⟨S1000, .f32⟩
  | 33 => ⟨S_, .f32⟩
  | 34 => ⟨S1000, .f32⟩
  | 35 => ⟨S1000, .f32⟩
  | 36 => ⟨S_, .f32⟩
  | 37 => ⟨S1000, .f32⟩
  | 38 => ⟨S1000, .f32⟩
  | 39 => ⟨S7, .f32⟩
  | 40 => ⟨S7, .f32⟩
  | 41 => ⟨S2, .f32⟩
  | 42 => ⟨S2, .f32⟩
  | 43 => ⟨S1000x1x1, .f32⟩
  | 44 => ⟨S1x7x1, .f32⟩
  | 45 => ⟨S1000x1x1, .f32⟩
  | 46 => ⟨S1000x7x1, .f32⟩
  | 47 => ⟨S1000x7x1, .f32⟩
  | 48 => ⟨S1000x7x1, .f32⟩
  | 49 => ⟨S1000x7x1, .f32⟩
  | 50 => ⟨S1000x7x1, .f32⟩
  | 51 => ⟨S1x1x2, .f32⟩
  | 52 => ⟨S_, .f32⟩
  | 53 => ⟨S1x1x2, .f32⟩
  | 54 => ⟨S1x1x2, .f32⟩
  | 55 => ⟨S1000x1x1, .f32⟩
  | 56 => ⟨S1000x1x2, .f32⟩
  | 57 => ⟨S1000x1x2, .f32⟩
  | 58 => ⟨S1000x1x2, .f32⟩
  | 59 => ⟨S_, .f32⟩
  | 60 => ⟨S1000x1x2, .f32⟩
  | 61 => ⟨S1000x1x2, .f32⟩
  | 62 => ⟨S1000x7x2, .f32⟩
  | 63 => ⟨S1000x7x2, .f32⟩
  | 64 => ⟨S1000x7x2, .f32⟩
  | 65 => ⟨S1000x1x1, .f32⟩
  | 66 => ⟨S1x7x1, .f32⟩
  | 67 => ⟨S1000x1x1, .f32⟩
  | 68 => ⟨S1000x7x1, .f32⟩
  | 69 => ⟨S1000x7x1, .f32⟩
  | 70 => ⟨S1000x7x1, .f32⟩
  | 71 => ⟨S1000x7x1, .f32⟩
  | 72 => ⟨S1000x7x1, .f32⟩
  | 73 => ⟨S1x1x2, .f32⟩
  | 74 => ⟨S_, .f32⟩
  | 75 => ⟨S1x1x2, .f32⟩
  | 76 => ⟨S1x1x2, .f32⟩
  | 77 => ⟨S1000x1x1, .f32⟩
  | 78 => ⟨S1000x1x2, .f32⟩
  | 79 => ⟨S1000x1x2, .f32⟩
  | 80 => ⟨S1000x1x2, .f32⟩
  | 81 => ⟨S_, .f32⟩
  | 82 => ⟨S1000x1x2, .f32⟩
  | 83 => ⟨S1000x1x2, .f32⟩
  | 84 => ⟨S1000x7x2, .f32⟩
  | 85 => ⟨S1000x7x2, .f32⟩
  | 86 => ⟨S1000x7x2, .f32⟩
  | 87 => ⟨S1000x7x1x2x1, .f32⟩
  | 88 => ⟨S1000x7x7x2x2, .f32⟩
  | 89 => ⟨S1000x1x7x1x2, .f32⟩
  | 90 => ⟨S1000x7x7x2x2, .f32⟩
  | 91 => ⟨S1000x196, .f32⟩
  | 92 => ⟨S1000x196, .f32⟩
  | 93 => ⟨S_, .f32⟩
  | 94 => ⟨S1000x196, .f32⟩
  | 95 => ⟨S1000x196, .i1⟩
  | 96 => ⟨S_, .f32⟩
  | 97 => ⟨S1000x196, .f32⟩
  | 98 => ⟨S1000x196, .i1⟩
  | 99 => ⟨S1000x196, .i1⟩
  | 100 => ⟨S_, .f32⟩
  | 101 => ⟨S1000x196, .f32⟩
  | 102 => ⟨S1000x196, .i1⟩
  | 103 => ⟨S1000x196, .i1⟩
  | 104 => ⟨S_, .f32⟩
  | 105 => ⟨S1000x196, .f32⟩
  | 106 => ⟨S1000x196, .i1⟩
  | 107 => ⟨S1000x196, .i1⟩
  | 108 => ⟨S_, .f32⟩
  | 109 => ⟨S1000x196, .f32⟩
  | 110 => ⟨S1000x196, .f32⟩
  | 111 => ⟨S_, .f32⟩
  | 112 => ⟨S1000x196, .f32⟩
  | 113 => ⟨S1000x196, .f32⟩
  | 114 => ⟨S1000x196, .f32⟩
  | 115 => ⟨S1000x196, .i32⟩
  | 116 => ⟨S1000x196, .f32⟩
  | 117 => ⟨S1000x196, .i32⟩
  | 118 => ⟨S_, .i32⟩
  | 119 => ⟨S1000x196, .i32⟩
  | 120 => ⟨S1000x196, .i1⟩
  | 121 => ⟨S_, .i32⟩
  | 122 => ⟨S1000x196, .i32⟩
  | 123 => ⟨S1000x196, .i1⟩
  | 124 => ⟨S_, .i32⟩
  | 125 => ⟨S_, .i32⟩
  | 126 => ⟨S1000x196, .i32⟩
  | 127 => ⟨S1000x196, .i32⟩
  | _ => ⟨S4x256x64x64, .f32⟩

abbrev hbmTy0_1 (i : Nat) : BufTy := match i % 128 with
  | 0 => ⟨S_, .i32⟩
  | 1 => ⟨S_, .i32⟩
  | 2 => ⟨S1000x196, .i32⟩
  | 3 => ⟨S1000x196, .i32⟩
  | 4 => ⟨S_, .i32⟩
  | 5 => ⟨S1000x196, .i32⟩
  | 6 => ⟨S1000x196, .i32⟩
  | 7 => ⟨S_, .i32⟩
  | 8 => ⟨S_, .i32⟩
  | 9 => ⟨S1000x196, .i32⟩
  | 10 => ⟨S1000x196, .i32⟩
  | 11 => ⟨S_, .i32⟩
  | 12 => ⟨S1000x196, .i32⟩
  | 13 => ⟨S1000x196, .i32⟩
  | 14 => ⟨S_, .i32⟩
  | 15 => ⟨S_, .i32⟩
  | 16 => ⟨S1000x196, .i32⟩
  | 17 => ⟨S1000x196, .i32⟩
  | 18 => ⟨S1000x196, .f32⟩
  | 19 => ⟨S1000x196, .f32⟩
  | 20 => ⟨S_, .f32⟩
  | 21 => ⟨S_, .f32⟩
  | 22 => ⟨S1000x196, .f32⟩
  | 23 => ⟨S1000x196, .f32⟩
  | 24 => ⟨S1000x196, .f32⟩
  | 25 => ⟨S1000x196, .f32⟩
  | 26 => ⟨S_, .f32⟩
  | 27 => ⟨S_, .f32⟩
  | 28 => ⟨S1000x196, .f32⟩
  | 29 => ⟨S1000x196, .f32⟩
  | 30 => ⟨S_, .f32⟩
  | 31 => ⟨S1000x196, .f32⟩
  | 32 => ⟨S1000x196, .f32⟩
  | 33 => ⟨S_, .f32⟩
  | 34 => ⟨S1000x196, .f32⟩
  | 35 => ⟨S1000x196, .f32⟩
  | 36 => ⟨S4x256x4096, .f32⟩
  | 37 => ⟨S1000x1, .i32⟩
  | 38 => ⟨S1000x196, .i32⟩
  | 39 => ⟨S_, .i32⟩
  | 40 => ⟨S1000x196, .i32⟩
  | 41 => ⟨S1000x196, .i32⟩
  | 42 => ⟨S1000x196, .i32⟩
  | 43 => ⟨S_, .i32⟩
  | 44 => ⟨S1000x196, .i32⟩
  | 45 => ⟨S1000x196, .i32⟩
  | 46 => ⟨S1000x196, .i32⟩
  | 47 => ⟨S_, .i32⟩
  | 48 => ⟨S1000x196, .i32⟩
  | 49 => ⟨S1000x196, .i32⟩
  | 50 => ⟨S1000x196, .i32⟩
  | 51 => ⟨S_, .i32⟩
  | 52 => ⟨S1000x196, .i32⟩
  | 53 => ⟨S1000x196, .i32⟩
  | 54 => ⟨S1000x196, .i32⟩
  | 55 => ⟨S1000x196, .f32⟩
  | 56 => ⟨S1000x196x1, .f32⟩
  | 57 => ⟨S_, .i32⟩
  | 58 => ⟨S1000x196, .i32⟩
  | 59 => ⟨S1000x196, .i1⟩
  | 60 => ⟨S_, .i32⟩
  | 61 => ⟨S1000x196, .i32⟩
  | 62 => ⟨S1000x196, .i32⟩
  | 63 => ⟨S1000x196, .i32⟩
  | 64 => ⟨S_, .i32⟩
  | 65 => ⟨S1000x196, .i32⟩
  | 66 => ⟨S1000x196, .i1⟩
  | 67 => ⟨S_, .i32⟩
  | 68 => ⟨S1000x196, .i32⟩
  | 69 => ⟨S1000x196, .i32⟩
  | 70 => ⟨S1000x196, .i32⟩
  | 71 => ⟨S1000x196x1, .i32⟩
  | 72 => ⟨S1000x196x1, .i32⟩
  | 73 => ⟨S1000x196x2, .i32⟩
  | 74 => ⟨S1000x196x256, .f32⟩
  | 75 => ⟨S1000x196x256, .f32⟩
  | 76 => ⟨S1000x196x256, .f32⟩
  | 77 => ⟨S1000x196, .f32⟩
  | 78 => ⟨S1000x196x1, .f32⟩
  | 79 => ⟨S_, .i32⟩
  | 80 => ⟨S1000x196, .i32⟩
  | 81 => ⟨S1000x196, .i1⟩
  | 82 => ⟨S_, .i32⟩
  | 83 => ⟨S1000x196, .i32⟩
  | 84 => ⟨S1000x196, .i32⟩
  | 85 => ⟨S1000x196, .i32⟩
  | 86 => ⟨S_, .i32⟩
  | 87 => ⟨S1000x196, .i32⟩
  | 88 => ⟨S1000x196, .i1⟩
  | 89 => ⟨S_, .i32⟩
  | 90 => ⟨S1000x196, .i32⟩
  | 91 => ⟨S1000x196, .i32⟩
  | 92 => ⟨S1000x196, .i32⟩
  | 93 => ⟨S1000x196x1, .i32⟩
  | 94 => ⟨S1000x196x1, .i32⟩
  | 95 => ⟨S1000x196x2, .i32⟩
  | 96 => ⟨S1000x196x256, .f32⟩
  | 97 => ⟨S1000x196x256, .f32⟩
  | 98 => ⟨S1000x196x256, .f32⟩
  | 99 => ⟨S1000x196x256, .f32⟩
  | 100 => ⟨S1000x196, .f32⟩
  | 101 => ⟨S1000x196x1, .f32⟩
  | 102 => ⟨S_, .i32⟩
  | 103 => ⟨S1000x196, .i32⟩
  | 104 => ⟨S1000x196, .i1⟩
  | 105 => ⟨S_, .i32⟩
  | 106 => ⟨S1000x196, .i32⟩
  | 107 => ⟨S1000x196, .i32⟩
  | 108 => ⟨S1000x196, .i32⟩
  | 109 => ⟨S_, .i32⟩
  | 110 => ⟨S1000x196, .i32⟩
  | 111 => ⟨S1000x196, .i1⟩
  | 112 => ⟨S_, .i32⟩
  | 113 => ⟨S1000x196, .i32⟩
  | 114 => ⟨S1000x196, .i32⟩
  | 115 => ⟨S1000x196, .i32⟩
  | 116 => ⟨S1000x196x1, .i32⟩
  | 117 => ⟨S1000x196x1, .i32⟩
  | 118 => ⟨S1000x196x2, .i32⟩
  | 119 => ⟨S1000x196x256, .f32⟩
  | 120 => ⟨S1000x196x256, .f32⟩
  | 121 => ⟨S1000x196x256, .f32⟩
  | 122 => ⟨S1000x196x256, .f32⟩
  | 123 => ⟨S1000x196, .f32⟩
  | 124 => ⟨S1000x196x1, .f32⟩
  | 125 => ⟨S_, .i32⟩
  | 126 => ⟨S1000x196, .i32⟩
  | 127 => ⟨S1000x196, .i1⟩
  | _ => ⟨S4x256x64x64, .f32⟩

abbrev hbmTy0_2 (i : Nat) : BufTy := match i % 128 with
  | 0 => ⟨S_, .i32⟩
  | 1 => ⟨S1000x196, .i32⟩
  | 2 => ⟨S1000x196, .i32⟩
  | 3 => ⟨S1000x196, .i32⟩
  | 4 => ⟨S_, .i32⟩
  | 5 => ⟨S1000x196, .i32⟩
  | 6 => ⟨S1000x196, .i1⟩
  | 7 => ⟨S_, .i32⟩
  | 8 => ⟨S1000x196, .i32⟩
  | 9 => ⟨S1000x196, .i32⟩
  | 10 => ⟨S1000x196, .i32⟩
  | 11 => ⟨S1000x196x1, .i32⟩
  | 12 => ⟨S1000x196x1, .i32⟩
  | 13 => ⟨S1000x196x2, .i32⟩
  | 14 => ⟨S1000x196x256, .f32⟩
  | 15 => ⟨S1000x196x256, .f32⟩
  | 16 => ⟨S1000x196x256, .f32⟩
  | 17 => ⟨S1000x196x256, .f32⟩
  | 18 => ⟨S1000x196x1, .i1⟩
  | 19 => ⟨S_, .f32⟩
  | 20 => ⟨S_, .f32⟩
  | 21 => ⟨S1000x196x256, .i1⟩
  | 22 => ⟨S1000x196x256, .f32⟩
  | 23 => ⟨S1000x196x256, .f32⟩
  | 24 => ⟨S1000x7x7x4x256, .f32⟩
  | 25 => ⟨S_, .f32⟩
  | 26 => ⟨S1000x7x7x256, .f32⟩
  | 27 => ⟨S_, .f32⟩
  | 28 => ⟨S1000x7x7x256, .f32⟩
  | 29 => ⟨S1000x7x7x256, .f32⟩
  | 30 => ⟨S1000x256x7x7, .f32⟩
  | _ => ⟨S4x256x64x64, .f32⟩

abbrev hbmTy (i : Nat) : BufTy := match i / 128 with
  | 0 => hbmTy0_0 i
  | 1 => hbmTy0_1 i
  | 2 => hbmTy0_2 i
  | _ => ⟨S4x256x64x64, .f32⟩

abbrev bufTy : (tb : Table) → Fin (tcTables nBuf tb) → BufTy
  | .hbm, ⟨i, _⟩ => hbmTy i
  | _, _ => ⟨S4x256x64x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_cst : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_cst_0 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_cst_1 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_cst_2 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_cst_3 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_cst_4 : Ref sig .tc := ⟨.hbm, 30, rfl⟩
abbrev main_v23 : Ref sig .tc := ⟨.hbm, 31, rfl⟩
abbrev main_v24 : Ref sig .tc := ⟨.hbm, 32, rfl⟩
abbrev main_cst_5 : Ref sig .tc := ⟨.hbm, 33, rfl⟩
abbrev main_v25 : Ref sig .tc := ⟨.hbm, 34, rfl⟩
abbrev main_v26 : Ref sig .tc := ⟨.hbm, 35, rfl⟩
abbrev main_cst_6 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_cst_7 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_cst_8 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_v57 : Ref sig .tc := ⟨.hbm, 69, rfl⟩
abbrev main_v58 : Ref sig .tc := ⟨.hbm, 70, rfl⟩
abbrev main_v59 : Ref sig .tc := ⟨.hbm, 71, rfl⟩
abbrev main_v60 : Ref sig .tc := ⟨.hbm, 72, rfl⟩
abbrev main_v61 : Ref sig .tc := ⟨.hbm, 73, rfl⟩
abbrev main_cst_9 : Ref sig .tc := ⟨.hbm, 74, rfl⟩
abbrev main_v62 : Ref sig .tc := ⟨.hbm, 75, rfl⟩
abbrev main_v63 : Ref sig .tc := ⟨.hbm, 76, rfl⟩
abbrev main_v64 : Ref sig .tc := ⟨.hbm, 77, rfl⟩
abbrev main_v65 : Ref sig .tc := ⟨.hbm, 78, rfl⟩
abbrev main_v66 : Ref sig .tc := ⟨.hbm, 79, rfl⟩
abbrev main_v67 : Ref sig .tc := ⟨.hbm, 80, rfl⟩
abbrev main_cst_10 : Ref sig .tc := ⟨.hbm, 81, rfl⟩
abbrev main_v68 : Ref sig .tc := ⟨.hbm, 82, rfl⟩
abbrev main_v69 : Ref sig .tc := ⟨.hbm, 83, rfl⟩
abbrev main_v70 : Ref sig .tc := ⟨.hbm, 84, rfl⟩
abbrev main_v71 : Ref sig .tc := ⟨.hbm, 85, rfl⟩
abbrev main_v72 : Ref sig .tc := ⟨.hbm, 86, rfl⟩
abbrev main_v73 : Ref sig .tc := ⟨.hbm, 87, rfl⟩
abbrev main_v74 : Ref sig .tc := ⟨.hbm, 88, rfl⟩
abbrev main_v75 : Ref sig .tc := ⟨.hbm, 89, rfl⟩
abbrev main_v76 : Ref sig .tc := ⟨.hbm, 90, rfl⟩
abbrev main_v77 : Ref sig .tc := ⟨.hbm, 91, rfl⟩
abbrev main_v78 : Ref sig .tc := ⟨.hbm, 92, rfl⟩
abbrev main_cst_11 : Ref sig .tc := ⟨.hbm, 93, rfl⟩
abbrev main_v79 : Ref sig .tc := ⟨.hbm, 94, rfl⟩
abbrev main_v80 : Ref sig .tc := ⟨.hbm, 95, rfl⟩
abbrev main_cst_12 : Ref sig .tc := ⟨.hbm, 96, rfl⟩
abbrev main_v81 : Ref sig .tc := ⟨.hbm, 97, rfl⟩
abbrev main_v82 : Ref sig .tc := ⟨.hbm, 98, rfl⟩
abbrev main_v83 : Ref sig .tc := ⟨.hbm, 99, rfl⟩
abbrev main_cst_13 : Ref sig .tc := ⟨.hbm, 100, rfl⟩
abbrev main_v84 : Ref sig .tc := ⟨.hbm, 101, rfl⟩
abbrev main_v85 : Ref sig .tc := ⟨.hbm, 102, rfl⟩
abbrev main_v86 : Ref sig .tc := ⟨.hbm, 103, rfl⟩
abbrev main_cst_14 : Ref sig .tc := ⟨.hbm, 104, rfl⟩
abbrev main_v87 : Ref sig .tc := ⟨.hbm, 105, rfl⟩
abbrev main_v88 : Ref sig .tc := ⟨.hbm, 106, rfl⟩
abbrev main_v89 : Ref sig .tc := ⟨.hbm, 107, rfl⟩
abbrev main_cst_15 : Ref sig .tc := ⟨.hbm, 108, rfl⟩
abbrev main_v90 : Ref sig .tc := ⟨.hbm, 109, rfl⟩
abbrev main_v91 : Ref sig .tc := ⟨.hbm, 110, rfl⟩
abbrev main_cst_16 : Ref sig .tc := ⟨.hbm, 111, rfl⟩
abbrev main_v92 : Ref sig .tc := ⟨.hbm, 112, rfl⟩
abbrev main_v93 : Ref sig .tc := ⟨.hbm, 113, rfl⟩
abbrev main_v94 : Ref sig .tc := ⟨.hbm, 114, rfl⟩
abbrev main_v95 : Ref sig .tc := ⟨.hbm, 115, rfl⟩
abbrev main_v96 : Ref sig .tc := ⟨.hbm, 116, rfl⟩
abbrev main_v97 : Ref sig .tc := ⟨.hbm, 117, rfl⟩
abbrev main_c : Ref sig .tc := ⟨.hbm, 118, rfl⟩
abbrev main_v98 : Ref sig .tc := ⟨.hbm, 119, rfl⟩
abbrev main_v99 : Ref sig .tc := ⟨.hbm, 120, rfl⟩
abbrev main_c_17 : Ref sig .tc := ⟨.hbm, 121, rfl⟩
abbrev main_v100 : Ref sig .tc := ⟨.hbm, 122, rfl⟩
abbrev main_v101 : Ref sig .tc := ⟨.hbm, 123, rfl⟩
abbrev main_c_18 : Ref sig .tc := ⟨.hbm, 124, rfl⟩
abbrev main_call0_v0 : Ref sig .tc := ⟨.hbm, 125, rfl⟩
abbrev main_call0_v1 : Ref sig .tc := ⟨.hbm, 126, rfl⟩
abbrev main_v102 : Ref sig .tc := ⟨.hbm, 127, rfl⟩
abbrev main_c_19 : Ref sig .tc := ⟨.hbm, 128, rfl⟩
abbrev main_call1_v0 : Ref sig .tc := ⟨.hbm, 129, rfl⟩
abbrev main_call1_v1 : Ref sig .tc := ⟨.hbm, 130, rfl⟩
abbrev main_v103 : Ref sig .tc := ⟨.hbm, 131, rfl⟩
abbrev main_c_20 : Ref sig .tc := ⟨.hbm, 132, rfl⟩
abbrev main_v104 : Ref sig .tc := ⟨.hbm, 133, rfl⟩
abbrev main_v105 : Ref sig .tc := ⟨.hbm, 134, rfl⟩
abbrev main_c_21 : Ref sig .tc := ⟨.hbm, 135, rfl⟩
abbrev main_call2_v0 : Ref sig .tc := ⟨.hbm, 136, rfl⟩
abbrev main_call2_v1 : Ref sig .tc := ⟨.hbm, 137, rfl⟩
abbrev main_v106 : Ref sig .tc := ⟨.hbm, 138, rfl⟩
abbrev main_c_22 : Ref sig .tc := ⟨.hbm, 139, rfl⟩
abbrev main_v107 : Ref sig .tc := ⟨.hbm, 140, rfl⟩
abbrev main_v108 : Ref sig .tc := ⟨.hbm, 141, rfl⟩
abbrev main_c_23 : Ref sig .tc := ⟨.hbm, 142, rfl⟩
abbrev main_call3_v0 : Ref sig .tc := ⟨.hbm, 143, rfl⟩
abbrev main_call3_v1 : Ref sig .tc := ⟨.hbm, 144, rfl⟩
abbrev main_v109 : Ref sig .tc := ⟨.hbm, 145, rfl⟩
abbrev main_v110 : Ref sig .tc := ⟨.hbm, 146, rfl⟩
abbrev main_v111 : Ref sig .tc := ⟨.hbm, 147, rfl⟩
abbrev main_cst_24 : Ref sig .tc := ⟨.hbm, 148, rfl⟩
abbrev main_call4_v0 : Ref sig .tc := ⟨.hbm, 149, rfl⟩
abbrev main_call4_v1 : Ref sig .tc := ⟨.hbm, 150, rfl⟩
abbrev main_v112 : Ref sig .tc := ⟨.hbm, 151, rfl⟩
abbrev main_v113 : Ref sig .tc := ⟨.hbm, 152, rfl⟩
abbrev main_v114 : Ref sig .tc := ⟨.hbm, 153, rfl⟩
abbrev main_cst_25 : Ref sig .tc := ⟨.hbm, 154, rfl⟩
abbrev main_call5_v0 : Ref sig .tc := ⟨.hbm, 155, rfl⟩
abbrev main_call5_v1 : Ref sig .tc := ⟨.hbm, 156, rfl⟩
abbrev main_v115 : Ref sig .tc := ⟨.hbm, 157, rfl⟩
abbrev main_cst_26 : Ref sig .tc := ⟨.hbm, 158, rfl⟩
abbrev main_v116 : Ref sig .tc := ⟨.hbm, 159, rfl⟩
abbrev main_v117 : Ref sig .tc := ⟨.hbm, 160, rfl⟩
abbrev main_cst_27 : Ref sig .tc := ⟨.hbm, 161, rfl⟩
abbrev main_v118 : Ref sig .tc := ⟨.hbm, 162, rfl⟩
abbrev main_v119 : Ref sig .tc := ⟨.hbm, 163, rfl⟩
abbrev main_v120 : Ref sig .tc := ⟨.hbm, 164, rfl⟩
abbrev main_v121 : Ref sig .tc := ⟨.hbm, 165, rfl⟩
abbrev main_v122 : Ref sig .tc := ⟨.hbm, 166, rfl⟩
abbrev main_c_28 : Ref sig .tc := ⟨.hbm, 167, rfl⟩
abbrev main_v123 : Ref sig .tc := ⟨.hbm, 168, rfl⟩
abbrev main_v124 : Ref sig .tc := ⟨.hbm, 169, rfl⟩
abbrev main_v125 : Ref sig .tc := ⟨.hbm, 170, rfl⟩
abbrev main_c_29 : Ref sig .tc := ⟨.hbm, 171, rfl⟩
abbrev main_v126 : Ref sig .tc := ⟨.hbm, 172, rfl⟩
abbrev main_v127 : Ref sig .tc := ⟨.hbm, 173, rfl⟩
abbrev main_v128 : Ref sig .tc := ⟨.hbm, 174, rfl⟩
abbrev main_c_30 : Ref sig .tc := ⟨.hbm, 175, rfl⟩
abbrev main_v129 : Ref sig .tc := ⟨.hbm, 176, rfl⟩
abbrev main_v130 : Ref sig .tc := ⟨.hbm, 177, rfl⟩
abbrev main_v131 : Ref sig .tc := ⟨.hbm, 178, rfl⟩
abbrev main_c_31 : Ref sig .tc := ⟨.hbm, 179, rfl⟩
abbrev main_v132 : Ref sig .tc := ⟨.hbm, 180, rfl⟩
abbrev main_v133 : Ref sig .tc := ⟨.hbm, 181, rfl⟩
abbrev main_v134 : Ref sig .tc := ⟨.hbm, 182, rfl⟩
abbrev main_v135 : Ref sig .tc := ⟨.hbm, 183, rfl⟩
abbrev main_v136 : Ref sig .tc := ⟨.hbm, 184, rfl⟩
abbrev main_c_32 : Ref sig .tc := ⟨.hbm, 185, rfl⟩
abbrev main_v137 : Ref sig .tc := ⟨.hbm, 186, rfl⟩
abbrev main_v138 : Ref sig .tc := ⟨.hbm, 187, rfl⟩
abbrev main_c_33 : Ref sig .tc := ⟨.hbm, 188, rfl⟩
abbrev main_v139 : Ref sig .tc := ⟨.hbm, 189, rfl⟩
abbrev main_v140 : Ref sig .tc := ⟨.hbm, 190, rfl⟩
abbrev main_v141 : Ref sig .tc := ⟨.hbm, 191, rfl⟩
abbrev main_c_34 : Ref sig .tc := ⟨.hbm, 192, rfl⟩
abbrev main_v142 : Ref sig .tc := ⟨.hbm, 193, rfl⟩
abbrev main_v143 : Ref sig .tc := ⟨.hbm, 194, rfl⟩
abbrev main_c_35 : Ref sig .tc := ⟨.hbm, 195, rfl⟩
abbrev main_v144 : Ref sig .tc := ⟨.hbm, 196, rfl⟩
abbrev main_v145 : Ref sig .tc := ⟨.hbm, 197, rfl⟩
abbrev main_v146 : Ref sig .tc := ⟨.hbm, 198, rfl⟩
abbrev main_v147 : Ref sig .tc := ⟨.hbm, 199, rfl⟩
abbrev main_v148 : Ref sig .tc := ⟨.hbm, 200, rfl⟩
abbrev main_v149 : Ref sig .tc := ⟨.hbm, 201, rfl⟩
abbrev main_v150 : Ref sig .tc := ⟨.hbm, 202, rfl⟩
abbrev main_v151 : Ref sig .tc := ⟨.hbm, 203, rfl⟩
abbrev main_v152 : Ref sig .tc := ⟨.hbm, 204, rfl⟩
abbrev main_v153 : Ref sig .tc := ⟨.hbm, 205, rfl⟩
abbrev main_v154 : Ref sig .tc := ⟨.hbm, 206, rfl⟩
abbrev main_c_36 : Ref sig .tc := ⟨.hbm, 207, rfl⟩
abbrev main_v155 : Ref sig .tc := ⟨.hbm, 208, rfl⟩
abbrev main_v156 : Ref sig .tc := ⟨.hbm, 209, rfl⟩
abbrev main_c_37 : Ref sig .tc := ⟨.hbm, 210, rfl⟩
abbrev main_v157 : Ref sig .tc := ⟨.hbm, 211, rfl⟩
abbrev main_v158 : Ref sig .tc := ⟨.hbm, 212, rfl⟩
abbrev main_v159 : Ref sig .tc := ⟨.hbm, 213, rfl⟩
abbrev main_c_38 : Ref sig .tc := ⟨.hbm, 214, rfl⟩
abbrev main_v160 : Ref sig .tc := ⟨.hbm, 215, rfl⟩
abbrev main_v161 : Ref sig .tc := ⟨.hbm, 216, rfl⟩
abbrev main_c_39 : Ref sig .tc := ⟨.hbm, 217, rfl⟩
abbrev main_v162 : Ref sig .tc := ⟨.hbm, 218, rfl⟩
abbrev main_v163 : Ref sig .tc := ⟨.hbm, 219, rfl⟩
abbrev main_v164 : Ref sig .tc := ⟨.hbm, 220, rfl⟩
abbrev main_v165 : Ref sig .tc := ⟨.hbm, 221, rfl⟩
abbrev main_v166 : Ref sig .tc := ⟨.hbm, 222, rfl⟩
abbrev main_v167 : Ref sig .tc := ⟨.hbm, 223, rfl⟩
abbrev main_v168 : Ref sig .tc := ⟨.hbm, 224, rfl⟩
abbrev main_v169 : Ref sig .tc := ⟨.hbm, 225, rfl⟩
abbrev main_v170 : Ref sig .tc := ⟨.hbm, 226, rfl⟩
abbrev main_v171 : Ref sig .tc := ⟨.hbm, 227, rfl⟩
abbrev main_v172 : Ref sig .tc := ⟨.hbm, 228, rfl⟩
abbrev main_v173 : Ref sig .tc := ⟨.hbm, 229, rfl⟩
abbrev main_c_40 : Ref sig .tc := ⟨.hbm, 230, rfl⟩
abbrev main_v174 : Ref sig .tc := ⟨.hbm, 231, rfl⟩
abbrev main_v175 : Ref sig .tc := ⟨.hbm, 232, rfl⟩
abbrev main_c_41 : Ref sig .tc := ⟨.hbm, 233, rfl⟩
abbrev main_v176 : Ref sig .tc := ⟨.hbm, 234, rfl⟩
abbrev main_v177 : Ref sig .tc := ⟨.hbm, 235, rfl⟩
abbrev main_v178 : Ref sig .tc := ⟨.hbm, 236, rfl⟩
abbrev main_c_42 : Ref sig .tc := ⟨.hbm, 237, rfl⟩
abbrev main_v179 : Ref sig .tc := ⟨.hbm, 238, rfl⟩
abbrev main_v180 : Ref sig .tc := ⟨.hbm, 239, rfl⟩
abbrev main_c_43 : Ref sig .tc := ⟨.hbm, 240, rfl⟩
abbrev main_v181 : Ref sig .tc := ⟨.hbm, 241, rfl⟩
abbrev main_v182 : Ref sig .tc := ⟨.hbm, 242, rfl⟩
abbrev main_v183 : Ref sig .tc := ⟨.hbm, 243, rfl⟩
abbrev main_v184 : Ref sig .tc := ⟨.hbm, 244, rfl⟩
abbrev main_v185 : Ref sig .tc := ⟨.hbm, 245, rfl⟩
abbrev main_v186 : Ref sig .tc := ⟨.hbm, 246, rfl⟩
abbrev main_v187 : Ref sig .tc := ⟨.hbm, 247, rfl⟩
abbrev main_v188 : Ref sig .tc := ⟨.hbm, 248, rfl⟩
abbrev main_v189 : Ref sig .tc := ⟨.hbm, 249, rfl⟩
abbrev main_v190 : Ref sig .tc := ⟨.hbm, 250, rfl⟩
abbrev main_v191 : Ref sig .tc := ⟨.hbm, 251, rfl⟩
abbrev main_v192 : Ref sig .tc := ⟨.hbm, 252, rfl⟩
abbrev main_c_44 : Ref sig .tc := ⟨.hbm, 253, rfl⟩
abbrev main_v193 : Ref sig .tc := ⟨.hbm, 254, rfl⟩
abbrev main_v194 : Ref sig .tc := ⟨.hbm, 255, rfl⟩
abbrev main_c_45 : Ref sig .tc := ⟨.hbm, 256, rfl⟩
abbrev main_v195 : Ref sig .tc := ⟨.hbm, 257, rfl⟩
abbrev main_v196 : Ref sig .tc := ⟨.hbm, 258, rfl⟩
abbrev main_v197 : Ref sig .tc := ⟨.hbm, 259, rfl⟩
abbrev main_c_46 : Ref sig .tc := ⟨.hbm, 260, rfl⟩
abbrev main_v198 : Ref sig .tc := ⟨.hbm, 261, rfl⟩
abbrev main_v199 : Ref sig .tc := ⟨.hbm, 262, rfl⟩
abbrev main_c_47 : Ref sig .tc := ⟨.hbm, 263, rfl⟩
abbrev main_v200 : Ref sig .tc := ⟨.hbm, 264, rfl⟩
abbrev main_v201 : Ref sig .tc := ⟨.hbm, 265, rfl⟩
abbrev main_v202 : Ref sig .tc := ⟨.hbm, 266, rfl⟩
abbrev main_v203 : Ref sig .tc := ⟨.hbm, 267, rfl⟩
abbrev main_v204 : Ref sig .tc := ⟨.hbm, 268, rfl⟩
abbrev main_v205 : Ref sig .tc := ⟨.hbm, 269, rfl⟩
abbrev main_v206 : Ref sig .tc := ⟨.hbm, 270, rfl⟩
abbrev main_v207 : Ref sig .tc := ⟨.hbm, 271, rfl⟩
abbrev main_v208 : Ref sig .tc := ⟨.hbm, 272, rfl⟩
abbrev main_v209 : Ref sig .tc := ⟨.hbm, 273, rfl⟩
abbrev main_v210 : Ref sig .tc := ⟨.hbm, 274, rfl⟩
abbrev main_cst_48 : Ref sig .tc := ⟨.hbm, 275, rfl⟩
abbrev main_call6_v0 : Ref sig .tc := ⟨.hbm, 276, rfl⟩
abbrev main_call6_v1 : Ref sig .tc := ⟨.hbm, 277, rfl⟩
abbrev main_call6_v2 : Ref sig .tc := ⟨.hbm, 278, rfl⟩
abbrev main_v211 : Ref sig .tc := ⟨.hbm, 279, rfl⟩
abbrev main_v212 : Ref sig .tc := ⟨.hbm, 280, rfl⟩
abbrev main_cst_49 : Ref sig .tc := ⟨.hbm, 281, rfl⟩
abbrev main_v213 : Ref sig .tc := ⟨.hbm, 282, rfl⟩
abbrev main_cst_50 : Ref sig .tc := ⟨.hbm, 283, rfl⟩
abbrev main_v214 : Ref sig .tc := ⟨.hbm, 284, rfl⟩
abbrev main_v215 : Ref sig .tc := ⟨.hbm, 285, rfl⟩
abbrev main_v216 : Ref sig .tc := ⟨.hbm, 286, rfl⟩

abbrev nD : Nat := 1
abbrev τ : Topo := Topo.v7x

variable {F : FTy → Type} [FloatOps F]
-- ==== Proof.Consts.lean ====
/-
  The float constants that the two programs print as bit patterns, as real numbers, and the sample coordinate of a
  box along one axis, which both programs compute by the same operations.
-/
module

public import Idealize.ShloMosaic.PureOps.Ideal.Laws
public import Idealize.ShloMosaic.Lib.Pointwise

@[expose] public section

noncomputable section

namespace Cert.RoiAlign

open Idealize.ShloMosaic

/-- The pattern of `64`. -/
theorem bits_64 : Ideal.ofBits .f32 0x42800000#32 = ((64 : ℝ) : EReal) := by
  simp [Ideal.ofBits, Ideal.ieee, -EReal.coe_mul]; norm_num
/-- The pattern of `1`. -/
theorem bits_1 : Ideal.ofBits .f32 0x3F800000#32 = ((1 : ℝ) : EReal) := by
  simp [Ideal.ofBits, Ideal.ieee, -EReal.coe_mul]; norm_num
/-- The pattern of `7`. -/
theorem bits_7 : Ideal.ofBits .f32 0x40E00000#32 = ((7 : ℝ) : EReal) := by
  simp [Ideal.ofBits, Ideal.ieee, -EReal.coe_mul]; norm_num
/-- The pattern of `1/2`. -/
theorem bits_half : Ideal.ofBits .f32 0x3F000000#32 = ((1 / 2 : ℝ) : EReal) := by
  simp [Ideal.ofBits, Ideal.ieee, -EReal.coe_mul]; norm_num
/-- The pattern of `2`. -/
theorem bits_2 : Ideal.ofBits .f32 0x40000000#32 = ((2 : ℝ) : EReal) := by
  simp [Ideal.ofBits, Ideal.ieee, -EReal.coe_mul]; norm_num
/-- The pattern of `-1`. -/
theorem bits_neg1 : Ideal.ofBits .f32 0xBF800000#32 = ((-1 : ℝ) : EReal) := by
  simp [Ideal.ofBits, Ideal.ieee, -EReal.coe_mul]; norm_num
/-- The pattern of `63`. -/
theorem bits_63 : Ideal.ofBits .f32 0x427C0000#32 = ((63 : ℝ) : EReal) := by
  simp [Ideal.ofBits, Ideal.ieee, -EReal.coe_mul]; norm_num
/-- The pattern of `4`. -/
theorem bits_4 : Ideal.ofBits .f32 0x40800000#32 = ((4 : ℝ) : EReal) := by
  simp [Ideal.ofBits, Ideal.ieee, -EReal.coe_mul]; norm_num
/-- The pattern of `16`. -/
theorem bits_16 : Ideal.ofBits .f32 0x41800000#32 = ((16 : ℝ) : EReal) := by
  simp [Ideal.ofBits, Ideal.ieee, -EReal.coe_mul]; norm_num

/-- The size of one of the seven bins of a box that reaches from `a` to `b` in units of the picture's extent. -/
def bin (a b : EReal) : EReal :=
  Ideal.div (max (b * ((64 : ℝ) : EReal) - a * ((64 : ℝ) : EReal)) 1) ((7 : ℝ) : EReal)

/-- The coordinate of sample `i` of bin `p` of a box that reaches from `a` to `b`. -/
def coord (a b : EReal) (p i : ℕ) : EReal :=
  (a * ((64 : ℝ) : EReal) + ((p : ℝ) : EReal) * bin a b)
    + Ideal.div ((((i : ℝ) : EReal) + ((1 / 2 : ℝ) : EReal)) * bin a b) ((2 : ℝ) : EReal)

/-- Reading a signed 32-bit word that counts: the natural number. -/
theorem ofNat_toInt (n : ℕ) (h : n < 2 ^ 31) : (BitVec.ofNat 32 n).toInt = n := by
  rw [BitVec.toInt_ofNat', Int.bmod_eq_of_le] <;> omega

/-- A word read as a float is its integer. -/
theorem sitofp_eq (b : BitVec 32) : FloatOps.sitofp (F := Ideal) FTy.f32 b = ((b.toInt : ℝ) : EReal) := rfl

/-- A counting word read as a float is the number counted. -/
theorem sitofp_ofNat (n : ℕ) (h : n < 2 ^ 31) : FloatOps.sitofp (F := Ideal) FTy.f32 (BitVec.ofNat 32 n) = ((n : ℝ) : EReal) := by
  rw [sitofp_eq, ofNat_toInt n h, Int.cast_natCast]

end Cert.RoiAlign

end
-- ==== Proof.Bilinear.lean ====
/-
  The mathematics of one pooled value, away from any program: sums over the extended reals weighted by nonnegative
  reals, the tent `max (1 - |r|) 0` as a two-point interpolation, and the equation between the two ways of pooling.

  The kernel weights every pixel by a product of two tents and sums over all pixels. The reference reads four corner
  pixels per sample point and averages four sample points. `pool_eq` says both are the same extended real, for any
  features whatsoever: the weights are nonnegative reals, and those distribute over sums of extended reals.
-/
module

public import Idealize.ShloMosaic.PureOps.Ideal.Laws

@[expose] public section

noncomputable section

namespace Cert.RoiAlign

open Idealize.ShloMosaic

/-! ## Nonnegative real weights over the extended reals -/

/-- A nonnegative real factor distributes over a sum of two extended reals. -/
theorem coe_mul_add {c : ℝ} (hc : 0 ≤ c) (a b : EReal) : (c : EReal) * (a + b) = c * a + c * b :=
  EReal.left_distrib_of_nonneg_of_ne_top (EReal.coe_nonneg.mpr hc) (EReal.coe_ne_top c) a b

/-- A nonnegative real factor distributes over a finite sum of extended reals. -/
theorem coe_mul_sum {ι : Type*} (s : Finset ι) {c : ℝ} (hc : 0 ≤ c) (g : ι → EReal) :
    (c : EReal) * ∑ i ∈ s, g i = ∑ i ∈ s, (c : EReal) * g i := by
  classical
  induction s using Finset.induction_on with
  | empty => simp
  | insert a s ha ih => rw [Finset.sum_insert ha, Finset.sum_insert ha, coe_mul_add hc, ih]

/-- The embedding of the reals commutes with finite sums. -/
theorem coe_sum {ι : Type*} (s : Finset ι) (w : ι → ℝ) : ((∑ i ∈ s, w i : ℝ) : EReal) = ∑ i ∈ s, (w i : EReal) := by
  classical
  induction s using Finset.induction_on with
  | empty => simp
  | insert a s ha ih => rw [Finset.sum_insert ha, Finset.sum_insert ha, EReal.coe_add, ih]

/-- A sum of nonnegative real weights distributes over the extended real it multiplies. -/
theorem coe_sum_mul {ι : Type*} (s : Finset ι) {w : ι → ℝ} (hw : ∀ i, 0 ≤ w i) (a : EReal) :
    ((∑ i ∈ s, w i : ℝ) : EReal) * a = ∑ i ∈ s, (w i : EReal) * a := by
  classical
  induction s using Finset.induction_on with
  | empty => simp
  | insert b s hb ih =>
    rw [Finset.sum_insert hb, Finset.sum_insert hb, EReal.coe_add,
      EReal.right_distrib_of_nonneg (EReal.coe_nonneg.mpr (hw b)) (EReal.coe_nonneg.mpr (Finset.sum_nonneg fun i _ => hw i)), ih]

/-! ## The tent -/

/-- The tent of half-width one: `1` at zero, linear to `0` at distance one, `0` beyond. -/
def tent (r : ℝ) : ℝ := max (1 - |r|) 0

/-- The tent is never negative. -/
theorem tent_nonneg (r : ℝ) : 0 ≤ tent r := le_max_right _ _

/-- The tent vanishes at distance one and beyond. -/
theorem tent_eq_zero {r : ℝ} (h : 1 ≤ |r|) : tent r = 0 := max_eq_right (by linarith)

/-- The lower of the two pixels next to `y`, at most the last one. -/
def lo (y : ℝ) : Fin 64 := ⟨min ⌊y⌋₊ 63, by omega⟩
/-- The upper of the two pixels next to `y`, at most the last one. -/
def hi (y : ℝ) : Fin 64 := ⟨min (⌊y⌋₊ + 1) 63, by omega⟩
/-- How far `y` lies above its lower pixel. -/
def fr (y : ℝ) : ℝ := y - ((lo y).val : ℝ)

/-- A coordinate up to 63 has at most 63 whole pixels below it. -/
theorem floor_le_63 {y : ℝ} (h63 : y ≤ 63) : ⌊y⌋₊ ≤ 63 := by
  have := Nat.floor_le_floor h63
  simpa using this

/-- Up to 63, the lower pixel is the integer part of the coordinate. -/
theorem lo_val {y : ℝ} (h63 : y ≤ 63) : (lo y).val = ⌊y⌋₊ := min_eq_left (floor_le_63 h63)

/-- The fraction is not negative. -/
theorem fr_nonneg {y : ℝ} (h0 : 0 ≤ y) (h63 : y ≤ 63) : 0 ≤ fr y := by
  unfold fr; rw [lo_val h63]; have := Nat.floor_le h0; linarith

/-- The fraction is at most one. -/
theorem fr_le_one {y : ℝ} (h63 : y ≤ 63) : fr y ≤ 1 := by
  unfold fr; rw [lo_val h63]; have := Nat.lt_floor_add_one y; linarith

/-- Weighting 64 pixels by the tent at `y` reads the two pixels next to `y`, interpolated linearly. -/
theorem tent_sum {y : ℝ} (h0 : 0 ≤ y) (h63 : y ≤ 63) (g : Fin 64 → EReal) :
    ∑ j : Fin 64, ((tent (y - (j.val : ℝ)) : ℝ) : EReal) * g j
      = ((1 - fr y : ℝ) : EReal) * g (lo y) + ((fr y : ℝ) : EReal) * g (hi y) := by
  have hl := lo_val h63
  have hle := Nat.floor_le h0
  have hlt := Nat.lt_floor_add_one y
  have f0 := fr_nonneg h0 h63
  have f1 := fr_le_one h63
  have tlo : tent (y - ((lo y).val : ℝ)) = 1 - fr y := by
    change tent (fr y) = _
    unfold tent; rw [abs_of_nonneg f0, max_eq_left (by linarith)]
  rcases Nat.lt_or_ge ⌊y⌋₊ 63 with hlt63 | hge
  · have hh : (hi y).val = ⌊y⌋₊ + 1 := min_eq_left (by omega)
    have thi : tent (y - ((hi y).val : ℝ)) = fr y := by
      unfold tent fr; rw [hh, hl]; push_cast
      rw [abs_of_nonpos (by linarith), max_eq_left (by linarith)]; ring
    have hne : lo y ≠ hi y := fun h => by have := congrArg Fin.val h; omega
    rw [Finset.sum_eq_add (lo y) (hi y) hne]
    · rw [tlo, thi]
    · intro j _ hj
      have h1 : j.val ≠ ⌊y⌋₊ := fun h => hj.1 (Fin.ext (by omega))
      have h2 : j.val ≠ ⌊y⌋₊ + 1 := fun h => hj.2 (Fin.ext (by omega))
      rw [tent_eq_zero, EReal.coe_zero, zero_mul]
      rcases Nat.lt_or_ge j.val ⌊y⌋₊ with h | h
      · have : ((j.val : ℝ) + 1) ≤ (⌊y⌋₊ : ℝ) := by exact_mod_cast h
        rw [abs_of_nonneg (by linarith)]; linarith
      · have h3 : ⌊y⌋₊ + 2 ≤ j.val := by omega
        have : ((⌊y⌋₊ : ℝ) + 2) ≤ (j.val : ℝ) := by exact_mod_cast h3
        rw [abs_of_nonpos (by linarith)]; linarith
    · intro h; exact absurd (Finset.mem_univ _) h
    · intro h; exact absurd (Finset.mem_univ _) h
  · have he : ⌊y⌋₊ = 63 := le_antisymm (floor_le_63 h63) hge
    have hy : y = 63 := by rw [he] at hle; push_cast at hle; linarith
    have hf : fr y = 0 := by unfold fr; rw [hl, he, hy]; norm_num
    have hlh : hi y = lo y := Fin.ext (by unfold hi lo; simp only; omega)
    rw [Finset.sum_eq_single (lo y)]
    · rw [tlo, hf, hlh]; simp
    · intro j _ hj
      have h1 : j.val ≠ 63 := fun h => hj (Fin.ext (by omega))
      have h2 : j.val + 1 ≤ 63 := by omega
      have : ((j.val : ℝ) + 1) ≤ 63 := by exact_mod_cast h2
      rw [tent_eq_zero, EReal.coe_zero, zero_mul]
      rw [abs_of_nonneg (by linarith)]; linarith
    · intro h; exact absurd (Finset.mem_univ _) h

/-- A tent centred in another group of 64 pixels vanishes: the groups are one pixel apart at least. -/
theorem tent_far {y : ℝ} (h0 : 0 ≤ y) (h63 : y ≤ 63) {b b' r : ℕ} (hr : r < 64) (hb : b ≠ b') :
    tent (y + (b : ℝ) * 64 - ((b' : ℝ) * 64 + (r : ℝ))) = 0 := by
  apply tent_eq_zero
  have hr' : (r : ℝ) ≤ 63 := by exact_mod_cast (show r ≤ 63 by omega)
  have hr0 : (0 : ℝ) ≤ r := Nat.cast_nonneg r
  rcases Nat.lt_or_gt_of_ne hb with h | h
  · have : (b : ℝ) + 1 ≤ b' := by exact_mod_cast h
    rw [abs_of_nonpos (by linarith)]; linarith
  · have : (b' : ℝ) + 1 ≤ b := by exact_mod_cast h
    rw [abs_of_nonneg (by linarith)]; linarith

/-! ## A sample coordinate -/

/-- A sample coordinate clipped into the image, as a real: `min (max Y 0) 63`. -/
def clip (Y : EReal) : ℝ := (min (max Y 0) ((63 : ℝ) : EReal)).toReal

/-- The clipped coordinate, as an extended real. -/
theorem coe_clip (Y : EReal) : ((clip Y : ℝ) : EReal) = min (max Y 0) ((63 : ℝ) : EReal) := by
  apply EReal.coe_toReal
  · exact ne_top_of_le_ne_top (EReal.coe_ne_top 63) (min_le_right _ _)
  · refine ne_bot_of_le_ne_bot (EReal.coe_ne_bot 0) (le_min (le_max_right _ _) ?_)
    exact EReal.coe_nonneg.mpr (by norm_num)

/-- The clipped coordinate is not negative. -/
theorem clip_nonneg (Y : EReal) : 0 ≤ clip Y := by
  rw [← EReal.coe_nonneg, coe_clip]
  exact le_min (le_max_right _ _) (by exact EReal.coe_nonneg.mpr (by norm_num))

/-- The clipped coordinate is at most 63. -/
theorem clip_le (Y : EReal) : clip Y ≤ 63 := by
  rw [← EReal.coe_le_coe_iff, coe_clip]
  exact min_le_right _ _

/-- A sample point counts when its coordinate lies in `[-1, 64]`. -/
def Valid (Y : EReal) : Prop := ((-1 : ℝ) : EReal) ≤ Y ∧ Y ≤ ((64 : ℝ) : EReal)

open Classical in
/-- A sample's share of an axis: a half when its coordinate is valid, nothing otherwise. -/
def half (Y : EReal) : ℝ := if Valid Y then 1 / 2 else 0

/-- The share of a sample is not negative. -/
theorem half_nonneg (Y : EReal) : 0 ≤ half Y := by unfold half; split <;> norm_num

/-- The weight an axis' two sample coordinates give pixel `j`, the pixel given as a real. -/
def axisWeight (Y : Fin 2 → EReal) (j : ℝ) : ℝ := ∑ i : Fin 2, half (Y i) * tent (clip (Y i) - j)

/-- The weight of a pixel along one axis is not negative. -/
theorem axisWeight_nonneg (Y : Fin 2 → EReal) (j : ℝ) : 0 ≤ axisWeight Y j :=
  Finset.sum_nonneg fun _ _ => mul_nonneg (half_nonneg _) (tent_nonneg _)

/-- One axis: the weighted sum over 64 pixels is the two samples' interpolations, each times its share. -/
theorem axis_sum (Y : Fin 2 → EReal) (g : Fin 64 → EReal) :
    ∑ j : Fin 64, ((axisWeight Y (j.val : ℝ) : ℝ) : EReal) * g j
      = ∑ i : Fin 2, (half (Y i) : EReal) *
          (((1 - fr (clip (Y i)) : ℝ) : EReal) * g (lo (clip (Y i))) + ((fr (clip (Y i)) : ℝ) : EReal) * g (hi (clip (Y i)))) := by
  have e : ∀ j : Fin 64, ((axisWeight Y (j.val : ℝ) : ℝ) : EReal) * g j
      = ∑ i : Fin 2, (half (Y i) : EReal) * (((tent (clip (Y i) - (j.val : ℝ)) : ℝ) : EReal) * g j) := fun j => by
    unfold axisWeight
    rw [coe_sum_mul _ fun i => mul_nonneg (half_nonneg _) (tent_nonneg _)]
    exact Finset.sum_congr rfl fun i _ => by rw [EReal.coe_mul, mul_assoc]
  rw [Finset.sum_congr rfl fun j _ => e j, Finset.sum_comm]
  refine Finset.sum_congr rfl fun i _ => ?_
  rw [← coe_mul_sum _ (half_nonneg _), tent_sum (clip_nonneg _) (clip_le _)]

/-! ## The two ways of pooling -/

/-- What one sample point reads: the four pixels round it, interpolated. -/
def corners (y x : ℝ) (f : Fin 64 → Fin 64 → EReal) : EReal :=
  (((1 - fr y : ℝ) : EReal) * ((1 - fr x : ℝ) : EReal)) * f (lo y) (lo x)
    + (((1 - fr y : ℝ) : EReal) * ((fr x : ℝ) : EReal)) * f (lo y) (hi x)
    + (((fr y : ℝ) : EReal) * ((1 - fr x : ℝ) : EReal)) * f (hi y) (lo x)
    + (((fr y : ℝ) : EReal) * ((fr x : ℝ) : EReal)) * f (hi y) (hi x)

open Classical in
/-- What one sample point contributes: its reading when both coordinates are valid, zero otherwise. -/
def sample (Y X : EReal) (f : Fin 64 → Fin 64 → EReal) : EReal :=
  if Valid Y ∧ Valid X then corners (clip Y) (clip X) f else 0

/-- The shares of the two axes times the interpolation along one axis then the other is a quarter of the sample. -/
theorem share_sample (Y X : EReal) (f : Fin 64 → Fin 64 → EReal) :
    (half X : EReal) * (((1 - fr (clip X) : ℝ) : EReal) * ((half Y : EReal) *
        (((1 - fr (clip Y) : ℝ) : EReal) * f (lo (clip Y)) (lo (clip X)) + ((fr (clip Y) : ℝ) : EReal) * f (hi (clip Y)) (lo (clip X))))
      + ((fr (clip X) : ℝ) : EReal) * ((half Y : EReal) *
        (((1 - fr (clip Y) : ℝ) : EReal) * f (lo (clip Y)) (hi (clip X)) + ((fr (clip Y) : ℝ) : EReal) * f (hi (clip Y)) (hi (clip X)))))
      = ((1 / 4 : ℝ) : EReal) * sample Y X f := by
  have y0 := fr_nonneg (clip_nonneg Y) (clip_le Y)
  have y1 : 0 ≤ 1 - fr (clip Y) := by have := fr_le_one (clip_le Y); linarith
  have x0 := fr_nonneg (clip_nonneg X) (clip_le X)
  have x1 : 0 ≤ 1 - fr (clip X) := by have := fr_le_one (clip_le X); linarith
  by_cases hY : Valid Y
  · by_cases hX : Valid X
    · have eY : half Y = 1 / 2 := by unfold half; rw [if_pos hY]
      have eX : half X = 1 / 2 := by unfold half; rw [if_pos hX]
      have es : sample Y X f = corners (clip Y) (clip X) f := by unfold sample; rw [if_pos ⟨hY, hX⟩]
      rw [eY, eX, es]
      unfold corners
      generalize fr (clip Y) = u at *
      generalize fr (clip X) = v at *
      generalize f (lo (clip Y)) (lo (clip X)) = a
      generalize f (lo (clip Y)) (hi (clip X)) = b
      generalize f (hi (clip Y)) (lo (clip X)) = c
      generalize f (hi (clip Y)) (hi (clip X)) = d
      have h2 : (0 : ℝ) ≤ 1 / 2 := by norm_num
      have h4 : (0 : ℝ) ≤ 1 / 4 := by norm_num
      rw [coe_mul_add h4, coe_mul_add h4, coe_mul_add h4, coe_mul_add h2 (_ * a), coe_mul_add h2 (_ * b),
        coe_mul_add x1, coe_mul_add x0, coe_mul_add h2, coe_mul_add h2, coe_mul_add h2]
      have e : ∀ (p q : ℝ) (z : EReal), ((1 / 2 : ℝ) : EReal) * ((p : EReal) * (((1 / 2 : ℝ) : EReal) * ((q : EReal) * z)))
          = ((1 / 4 : ℝ) : EReal) * ((q : EReal) * (p : EReal) * z) := fun p q z => by
        rw [← mul_assoc, ← mul_assoc, ← mul_assoc, ← mul_assoc, ← mul_assoc, ← EReal.coe_mul, ← EReal.coe_mul, ← EReal.coe_mul,
          ← EReal.coe_mul, ← EReal.coe_mul]
        congr 2; ring
      rw [e, e, e, e]
      abel
    · have eX : half X = 0 := by unfold half; rw [if_neg hX]
      have es : sample Y X f = 0 := by unfold sample; rw [if_neg fun h => hX h.2]
      rw [eX, es, EReal.coe_zero, zero_mul, mul_zero]
  · have eY : half Y = 0 := by unfold half; rw [if_neg hY]
    have es : sample Y X f = 0 := by unfold sample; rw [if_neg fun h => hY h.1]
    rw [eY, es]; simp only [EReal.coe_zero, zero_mul, mul_zero, add_zero]

/-- The pooled value the kernel's way: every pixel times the product of the two axes' weights. -/
def pooled (Y X : Fin 2 → EReal) (f : Fin 64 → Fin 64 → EReal) : EReal :=
  ∑ x : Fin 64, ((axisWeight X (x.val : ℝ) : ℝ) : EReal) * ∑ y : Fin 64, ((axisWeight Y (y.val : ℝ) : ℝ) : EReal) * f y x

/-- THE EQUATION: the tent-weighted sum over all pixels is the mean of the four samples' corner readings. -/
theorem pool_eq (Y X : Fin 2 → EReal) (f : Fin 64 → Fin 64 → EReal) :
    pooled Y X f = (sample (Y 0) (X 0) f + sample (Y 0) (X 1) f + sample (Y 1) (X 0) f + sample (Y 1) (X 1) f) * ((1 / 4 : ℝ) : EReal) := by
  have h4 : (0 : ℝ) ≤ 1 / 4 := by norm_num
  have e : ∀ (Yi Xi : EReal), _ := fun Yi Xi => share_sample Yi Xi f
  unfold pooled
  rw [Finset.sum_congr rfl fun x _ => by rw [axis_sum Y fun y => f y x], axis_sum X]
  simp only [Fin.sum_univ_two]
  have x0 : ∀ X, 0 ≤ fr (clip X) := fun X => fr_nonneg (clip_nonneg X) (clip_le X)
  have x1 : ∀ X, 0 ≤ 1 - fr (clip X) := fun X => by have := fr_le_one (clip_le X); linarith
  rw [mul_comm _ ((1 / 4 : ℝ) : EReal), coe_mul_add h4, coe_mul_add h4, coe_mul_add h4, ← e, ← e, ← e, ← e]
  have d : ∀ (h p q : ℝ) (_ : 0 ≤ h) (_ : 0 ≤ p) (_ : 0 ≤ q) (a b c d : EReal),
      (h : EReal) * ((p : EReal) * (a + b) + (q : EReal) * (c + d))
        = (h : EReal) * ((p : EReal) * a + (q : EReal) * c) + (h : EReal) * ((p : EReal) * b + (q : EReal) * d) := by
    intro h p q hh hp hq a b c d
    rw [coe_mul_add hp, coe_mul_add hq, ← coe_mul_add hh]
    congr 1; abel
  rw [d _ _ _ (half_nonneg _) (x1 _) (x0 _), d _ _ _ (half_nonneg _) (x1 _) (x0 _)]
  abel

/-! ## Sums over a larger index that reach one group only -/

/-- The kernel's row sum runs over four images' rows; the weights reach the box's own image only. -/
theorem rows_sum (Y : Fin 2 → EReal) (b : Fin 4) (g : Fin 256 → EReal) :
    ∑ j : Fin 256, ((∑ i : Fin 2, half (Y i) * tent (clip (Y i) + (b.val : ℝ) * 64 - (j.val : ℝ)) : ℝ) : EReal) * g j
      = ∑ y : Fin 64, ((axisWeight Y (y.val : ℝ) : ℝ) : EReal) * g ⟨b.val * 64 + y.val, by omega⟩ := by
  symm
  refine Fintype.sum_of_injective (fun y : Fin 64 => (⟨b.val * 64 + y.val, by omega⟩ : Fin 256)) ?_ _ _ ?_ ?_
  · intro y y' h; have := congrArg Fin.val h; simp only at this; exact Fin.ext (by omega)
  · intro j hj
    have hne : b.val ≠ j.val / 64 := fun h => hj ⟨⟨j.val % 64, by omega⟩, Fin.ext (by simp only; omega)⟩
    have hs : ∑ i : Fin 2, half (Y i) * tent (clip (Y i) + (b.val : ℝ) * 64 - (j.val : ℝ)) = 0 := by
      refine Finset.sum_eq_zero fun i _ => ?_
      have hj' : (j.val : ℝ) = ((j.val / 64 : ℕ) : ℝ) * 64 + ((j.val % 64 : ℕ) : ℝ) := by
        exact_mod_cast (Nat.div_add_mod' j.val 64).symm
      rw [hj', tent_far (clip_nonneg _) (clip_le _) (Nat.mod_lt _ (by norm_num)) hne, mul_zero]
    rw [hs, EReal.coe_zero, zero_mul]
  · intro y
    congr 2
    unfold axisWeight
    refine Finset.sum_congr rfl fun i _ => ?_
    push_cast
    congr 2; ring

/-- The kernel's column sum runs over the sixteen boxes of a block; the weights reach the box's own columns only. -/
theorem cols_sum (X : Fin 2 → EReal) (k : Fin 16) (g : Fin 1024 → EReal) :
    ∑ q : Fin 1024, ((∑ i : Fin 2, half (X i) * tent (clip (X i) + (k.val : ℝ) * 64
        - (((q.val / 16 : ℕ) : ℝ) + ((q.val % 16 : ℕ) : ℝ) * 64)) : ℝ) : EReal) * g q
      = ∑ x : Fin 64, ((axisWeight X (x.val : ℝ) : ℝ) : EReal) * g ⟨x.val * 16 + k.val, by omega⟩ := by
  symm
  refine Fintype.sum_of_injective (fun x : Fin 64 => (⟨x.val * 16 + k.val, by omega⟩ : Fin 1024)) ?_ _ _ ?_ ?_
  · intro x x' h; have := congrArg Fin.val h; simp only at this; exact Fin.ext (by omega)
  · intro q hq
    have hne : k.val ≠ q.val % 16 := fun h => hq ⟨⟨q.val / 16, by omega⟩, Fin.ext (by simp only; omega)⟩
    have hs : ∑ i : Fin 2, half (X i) * tent (clip (X i) + (k.val : ℝ) * 64
        - (((q.val / 16 : ℕ) : ℝ) + ((q.val % 16 : ℕ) : ℝ) * 64)) = 0 := by
      refine Finset.sum_eq_zero fun i _ => ?_
      rw [add_comm ((q.val / 16 : ℕ) : ℝ), tent_far (clip_nonneg _) (clip_le _) (by omega) hne, mul_zero]
    rw [hs, EReal.coe_zero, zero_mul]
  · intro x
    have h1 : (x.val * 16 + k.val) / 16 = x.val := by omega
    have h2 : (x.val * 16 + k.val) % 16 = k.val := by omega
    congr 2
    unfold axisWeight
    refine Finset.sum_congr rfl fun i _ => ?_
    simp only [h1, h2]
    congr 2; ring

end Cert.RoiAlign

end
-- ==== Proof.KernelWeights.lean ====
/-
  The two weight matrices of one group of sixteen boxes. The row matrix weights the rows of all four pictures laid one
  under the other; the column matrix weights pairs of a column and a box. Each entry is a sum over the bin's two
  samples along the axis: the sample's half (or nothing, if it lies outside the picture) times the tent at the
  distance between the sample and the pixel.
-/
module

public import proofs.«01_k».proof.Proof.Gen.KernelIdeal.Skeleton
public import proofs.«01_k».proof.Proof.Consts
public import proofs.«01_k».proof.Proof.Bilinear

@[expose] public section

set_option maxRecDepth 16384

noncomputable section

namespace Cert.RoiAlign

open Idealize.ShloMosaic Cert.KernelIdeal

/-- One sample's weight at one pixel, as the kernel computes it, is a real: half the tent where the sample is valid,
    and zero elsewhere. -/
theorem weight_eq (Y : EReal) (o c : ℝ) :
    Scalar.select (IntOp.andi (BitVec.ofBool (decide (((-1 : ℝ) : EReal) ≤ Y))) (BitVec.ofBool (decide (Y ≤ ((64 : ℝ) : EReal)))))
        (((1 / 2 : ℝ) : EReal) * max (1 - FloatOps.absf (F := Ideal) (φ := .f32)
          (min (max Y 0) ((63 : ℝ) : EReal) + (o : EReal) - (c : EReal))) 0) 0
      = ((half Y * tent (clip Y + o - c) : ℝ) : EReal) := by
  have habs : FloatOps.absf (F := Ideal) (φ := .f32) (min (max Y 0) ((63 : ℝ) : EReal) + (o : EReal) - (c : EReal))
      = ((|clip Y + o - c| : ℝ) : EReal) := by
    rw [← coe_clip, ← EReal.coe_add, ← EReal.coe_sub]
    show max ((clip Y + o - c : ℝ) : EReal) (-((clip Y + o - c : ℝ) : EReal)) = _
    rw [← EReal.coe_neg]; exact (EReal.coe_strictMono.monotone.map_max).symm
  have htent : max (1 - ((|clip Y + o - c| : ℝ) : EReal)) 0 = ((tent (clip Y + o - c) : ℝ) : EReal) := by
    rw [← EReal.coe_one, ← EReal.coe_sub, ← EReal.coe_zero]; exact (EReal.coe_strictMono.monotone.map_max).symm
  rw [habs, htent]
  by_cases h : Valid Y
  · obtain ⟨h1, h2⟩ := h
    have hh : half Y = 1 / 2 := if_pos ⟨h1, h2⟩
    simp only [h1, h2, hh, decide_true]
    rw [EReal.coe_mul]; rfl
  · have hh : half Y = 0 := if_neg h
    have hb : IntOp.andi (BitVec.ofBool (decide (((-1 : ℝ) : EReal) ≤ Y))) (BitVec.ofBool (decide (Y ≤ ((64 : ℝ) : EReal)))) = 0#1 := by
      by_cases h1 : ((-1 : ℝ) : EReal) ≤ Y
      · have h2 : ¬ Y ≤ ((64 : ℝ) : EReal) := fun h2 => h ⟨h1, h2⟩
        simp only [h1, h2, decide_true, decide_false]; rfl
      · by_cases h2 : Y ≤ ((64 : ℝ) : EReal) <;> simp only [h1, h2, decide_true, decide_false] <;> rfl
    rw [hb, hh, zero_mul]; rfl

/-- The `y` coordinate of a sample of box `k`. -/
theorem pay6_apply (r : Vec Ideal S16x5 .f32) (p : Fin 7) (k : Fin 16) (i : Fin 2) :
    Gen.k0_pay6 (F := Ideal) r (ix3 p k i) = coord (r (ix2 k 2)) (r (ix2 k 4)) p i := by
  pointwise [Gen.k0_pay6, Gen.k0_pay2]
  rw [bits_64, bits_7, bits_half, bits_2, sitofp_ofNat _ (by omega), sitofp_ofNat _ (by omega)]
  rfl

/-- The row matrix at row `r` (bin `r / 16` of box `r % 16`) and stacked picture row `j`. -/
theorem rowWeights_apply (r : Vec Ideal S16x5 .f32) (cy : Vec Ideal S1x256 .f32)
    (hcy : ∀ j : Fin 256, cy (ix2 0 j) = (((j.val : ℕ) : ℝ) : EReal)) (k : Fin 16) (p : Fin 7) (row : Fin 112) (j : Fin 256)
    (hrow : row.val = p.val * 16 + k.val) :
    Gen.k0_pay8 (F := Ideal) (Gen.k0_pay3 r) (Gen.k0_pay6 r) (Gen.k0_pay7 r) (FloatOps.ofBits .f32 0x42800000#32) cy (ix2 row j)
      = ((∑ i : Fin 2, half (coord (r (ix2 k 2)) (r (ix2 k 4)) p i)
          * tent (clip (coord (r (ix2 k 2)) (r (ix2 k 4)) p i)
            + ((FloatOps.fptosi (F := Ideal) (φ := .f32) 32 (r (ix2 k 0))).toInt : ℝ) * 64 - (j.val : ℝ)) : ℝ) : EReal) := by
  have hp : (⟨row.val / 16, by omega⟩ : Fin 7) = p := Fin.ext (by show row.val / 16 = p.val; omega)
  have hk : (⟨row.val % 16, by omega⟩ : Fin 16) = k := Fin.ext (by show row.val % 16 = k.val; omega)
  pointwise [Gen.k0_pay8, Gen.k0_pay3, Gen.k0_pay7, Gen.k0_pay2]
  refine Eq.trans (Finset.sum_congr rfl fun i _ => ?_) (coe_sum _ _).symm
  rw [hp, hk, pay6_apply, hcy, bits_half, bits_63, bits_64, bits_neg1, sitofp_eq, ← EReal.coe_mul]
  exact weight_eq _ _ _

/-- The column matrix at row `r` (bin `r / 16` of box `r % 16`) and entry `q` (column `q / 16` for box `q % 16`). -/
theorem colWeights_apply (r : Vec Ideal S16x5 .f32) (cx : Vec Ideal S1x1024 .f32)
    (hcx : ∀ q : Fin 1024, cx (ix2 0 q) = (((((q.val / 16 : ℕ) : ℝ) + ((q.val % 16 : ℕ) : ℝ) * 64) : ℝ) : EReal))
    (k : Fin 16) (p : Fin 7) (row : Fin 112) (q : Fin 1024) (hrow : row.val = p.val * 16 + k.val) :
    Gen.k0_pay12 (F := Ideal) (Gen.k0_pay10 (Gen.k0_pay4 r) (Gen.k0_pay5 r)) (Gen.k0_pay11 (Gen.k0_pay5 r))
        (FloatOps.ofBits .f32 0x40000000#32) cx (ix2 row q)
      = ((∑ i : Fin 2, half (coord (r (ix2 k 1)) (r (ix2 k 3)) p i)
          * tent (clip (coord (r (ix2 k 1)) (r (ix2 k 3)) p i)
            + (k.val : ℝ) * 64 - (((q.val / 16 : ℕ) : ℝ) + ((q.val % 16 : ℕ) : ℝ) * 64)) : ℝ) : EReal) := by
  have hk : (⟨row.val % 16, by omega⟩ : Fin 16) = k := Fin.ext (by show row.val % 16 = k.val; omega)
  pointwise [Gen.k0_pay12, Gen.k0_pay10, Gen.k0_pay11, Gen.k0_pay9, Gen.k0_pay4, Gen.k0_pay5, Gen.k0_pay2]
  refine Eq.trans (Finset.sum_congr rfl fun i _ => ?_) (coe_sum _ _).symm
  have hp' : row.val / 16 = p.val := by omega
  have hk' : row.val % 16 = k.val := by omega
  rw [hk, hp', hk', bits_half, bits_63, bits_64, bits_neg1, bits_2, bits_7]
  rw [hcx, sitofp_ofNat _ (by omega), sitofp_ofNat _ (by omega), sitofp_ofNat _ (by omega), ← EReal.coe_mul]
  exact weight_eq _ _ _

end Cert.RoiAlign

end
-- ==== Proof.KernelBlock.lean ====
/-
  What one group of sixteen boxes leaves in its block of the output. The scratch holds, for every picture column, the
  weighted sum of the rows; the block holds the weighted sum of the scratch over the columns.
-/
module

public import proofs.«01_k».proof.Proof.Gen.KernelIdeal.Frame
public import proofs.«01_k».proof.Proof.KernelWeights
public import Idealize.ShloMosaic.Lib.Pipeline.ValueKit
public import Idealize.ShloMosaic.Lib.Pipeline.ReadBack

@[expose] public section

set_option maxRecDepth 16384

noncomputable section

namespace Cert.RoiAlign

open Idealize.ShloMosaic Idealize.ShloMosaic.Tactic Cert.KernelIdeal

/-- One column's chunk of the scratch: the row weights times the chunk's features. -/
def chunk (w : FVec Ideal S112x256 .bf16) (X : Vec Ideal S256x256 .bf16) : FVec Ideal S1x112x256 .bf16 :=
  fun x => ∑ j : Fin 256, w (ix2 (x 1) j) * X (ix2 j (x 2))

/-- The product that the body stores into the scratch is the chunk. -/
theorem pay15_eq (w : FVec Ideal S112x256 .bf16) (X : Vec Ideal S256x256 .bf16) : Gen.k0_pay15 (F := Ideal) w X = chunk w X := by
  funext x
  pointwise [Gen.k0_pay15, chunk]

/-- The scratch as a whole: at column `x`, row `r` and channel `c` the weighted sum of the features over the stacked rows. -/
def scratch (w : FVec Ideal S112x256 .bf16) (feat : Vec Ideal S256x16384 .bf16) : Vec Ideal S64x112x256 .bf16 :=
  fun y => ∑ j : Fin 256, w (ix2 (y 1) j) * feat (ix2 j ⟨(y 0).val * 256 + (y 2).val, by have := (y 0).isLt; have := (y 2).isLt; simp at *; omega⟩)

/-- A chunk stored under column `a`, whose features were loaded from column `a` on, is a block of the scratch as a whole. -/
theorem chunk_piece (arg1 : Memref sig .tc .vmem S256x16384 .bf16) (harg1 : arg1.IsWhole)
    (w : FVec Ideal S112x256 .bf16) (feat : Vec Ideal S256x16384 .bf16) (a b : ℕ) (hb : b = a * 256)
    (h1 : ∀ d, (![0, b] : Fin 2 → ℕ) d + S256x256.size d ≤ S256x16384.size d)
    (h2 : ∀ d, (![a, 0, 0] : Fin 3 → ℕ) d + S1x112x256.size d ≤ S64x112x256.size d)
    (x : (Rect.unit (s := S64x112x256) ![a, 0, 0] S1x112x256.size h2).shape.Idx) :
    Gen.k0_pay15 (F := Ideal) w (View.readAt (Elt Ideal) arg1.view (Rect.unit (s := S256x16384) ![0, b] S256x256.size h1).toLoadRect (harg1.unread feat)) x
      = scratch w feat ((Rect.unit (s := S64x112x256) ![a, 0, 0] S1x112x256.size h2).emb x) := by
  rw [pay15_eq, View.readAt_eq_ld, Memref.IsWhole.read_unread]
  subst hb
  unfold chunk scratch
  refine Finset.sum_congr rfl fun j _ => ?_
  have hx0 : (x 0).val < 1 := (x 0).isLt
  congr 1
  · congr 1; congr 1
    apply Fin.ext; show (x 1).val = 0 + 1 * (x 1).val; omega
  · refine View.ld_unit_apply_of _ _ _ _ _ _ fun d => ?_
    fin_cases d
    · show j.val = 0 + j.val; omega
    · show (a + 1 * (x 0).val) * 256 + (0 + 1 * (x 2).val) = a * 256 + (x 2).val; omega

/-- Reading the scratch anywhere, after all sixty-four chunks are stored. -/
theorem scratch_eq (c : Dev nD) (arg1 : Memref sig .tc .vmem S256x16384 .bf16) (harg1 : arg1.IsWhole)
    (arg2 : Memref sig .tc .vmem S16x5 .f32) (harg2 : arg2.IsWhole) (arg3 : Memref sig .tc .vmem S1x256 .f32) (harg3 : arg3.IsWhole)
    (x0 : Vec Ideal S256x16384 .bf16) (x1 : Vec Ideal S16x5 .f32) (x2 : Vec Ideal S1x256 .f32) (y : S64x112x256.Idx) :
    View.canon (Gen.kernelRun0_A.sl.HS0_64 (F := Ideal) c arg1 harg1 arg2 harg2 arg3 harg3 x0 x1 x2) y
      = scratch (Gen.kernelRun0_A.sl.r_5 (F := Ideal) c arg2 harg2 arg3 harg3 x1 x2) x0 y := by
  refine View.canon_apply_of_pieces (scratch (Gen.kernelRun0_A.sl.r_5 (F := Ideal) c arg2 harg2 arg3 harg3 x1 x2) x0) _ (View.PiecesOf.mem ?_) y
    (View.cover_of_tiledL (Gen.kernelRun0_A.sl.HS0_64 (F := Ideal) c arg1 harg1 arg2 harg2 arg3 harg3 x0 x1 x2) S1x112x256.size (by sl_kernel_rfl) y)
  unfold Gen.kernelRun0_A.sl.HS0_64 Gen.kernelRun0_A.sl.r_9 Gen.kernelRun0_A.sl.r_10 Gen.kernelRun0_A.sl.r_11 Gen.kernelRun0_A.sl.r_12 Gen.kernelRun0_A.sl.r_13 Gen.kernelRun0_A.sl.r_14 Gen.kernelRun0_A.sl.r_15 Gen.kernelRun0_A.sl.r_16 Gen.kernelRun0_A.sl.r_17 Gen.kernelRun0_A.sl.r_18 Gen.kernelRun0_A.sl.r_19
  repeat refine ⟨fun x => chunk_piece arg1 harg1 _ x0 _ _ rfl (by decide) (by decide) x, ?_⟩
  trivial

/-- One row of bins of the block: the column weights times sixteen rows of the scratch. -/
def slab (bd : FVec Ideal S112x1024 .bf16) (T : Vec Ideal S64x16x256 .bf16) : FVec Ideal S1x7x16x256 .bf16 :=
  fun x => ∑ q : Fin 1024, bd (ix2 ⟨(x 1).val * 16 + (x 2).val, by have := (x 1).isLt; have := (x 2).isLt; simp at *; omega⟩ q)
    * T (ix3 ⟨q.val / 16, by omega⟩ ⟨q.val % 16, by omega⟩ (x 3))

/-- The product that the body stores into the output block is the slab. -/
theorem pay90_eq (bd : FVec Ideal S112x1024 .bf16) (T : Vec Ideal S64x16x256 .bf16) : Gen.k0_pay90 (F := Ideal) bd T = slab bd T := by
  funext x
  pointwise [Gen.k0_pay90, slab]

/-- The output block as a whole: bin `(p, q)` of box `k` at channel `c`, from the column weights and the scratch. -/
def block (bd : FVec Ideal S112x1024 .bf16) (S : Vec Ideal S64x112x256 .bf16) : Vec Ideal S7x7x16x256 .bf16 :=
  fun y => ∑ q : Fin 1024, bd (ix2 ⟨(y 1).val * 16 + (y 2).val, by have := (y 1).isLt; have := (y 2).isLt; simp at *; omega⟩ q)
    * S (ix3 ⟨q.val / 16, by omega⟩ ⟨(y 0).val * 16 + q.val % 16, by have := (y 0).isLt; simp at *; omega⟩ (y 3))

/-- A slab stored at row of bins `a`, computed from the scratch's rows of that row of bins, is a part of the whole block. -/
theorem slab_piece (v : View sig .tc .vmem S64x112x256 .bf16) (L : List (View.Piece (Elt Ideal) S64x112x256 .bf16))
    (S : Vec Ideal S64x112x256 .bf16) (hS : ∀ y, View.canon L y = S y)
    (bd : FVec Ideal S112x1024 .bf16) (a b : ℕ) (hb : b = a * 16)
    (h1 : ∀ d, (![0, b, 0] : Fin 3 → ℕ) d + S64x16x256.size d ≤ S64x112x256.size d)
    (h2 : ∀ d, (![a, 0, 0, 0] : Fin 4 → ℕ) d + S1x7x16x256.size d ≤ S7x7x16x256.size d)
    (x : (Rect.unit (s := S7x7x16x256) ![a, 0, 0, 0] S1x7x16x256.size h2).shape.Idx) :
    Gen.k0_pay90 (F := Ideal) bd (v.readCov L (Rect.unit (s := S64x112x256) ![0, b, 0] S64x16x256.size h1).toLoadRect) x
      = block bd S ((Rect.unit (s := S7x7x16x256) ![a, 0, 0, 0] S1x7x16x256.size h2).emb x) := by
  rw [pay90_eq, View.readCov_eq_canon']
  simp only [hS]
  subst hb
  unfold slab block
  refine Finset.sum_congr rfl fun q _ => ?_
  have hx0 : (x 0).val < 1 := (x 0).isLt
  congr 1
  · congr 1; congr 1
    apply Fin.ext
    show (x 1).val * 16 + (x 2).val = (0 + 1 * (x 1).val) * 16 + (0 + 1 * (x 2).val); omega
  · refine congrArg S (funext fun d => Fin.ext ?_)
    fin_cases d
    · show 0 + 1 * (q.val / 16) = q.val / 16; omega
    · show a * 16 + 1 * (q.val % 16) = (a + 1 * (x 0).val) * 16 + q.val % 16; omega
    · show 0 + 1 * (x 3).val = 0 + 1 * (x 3).val; rfl

/-- What the body leaves in the output block at a grid point, from the point's input blocks. -/
theorem outsAt_eq (m : (ℓ : Loc nD τ sig) → Buf (Elt Ideal) ℓ) (c : Dev nD) (t : Fin cfg0.N) :
    Gen.outsAt0 m c t
      = block (Gen.k0_pay12 (F := Ideal) (Gen.k0_pay10 (Gen.k0_pay4 (Gen.iblk m c 1 t)) (Gen.k0_pay5 (Gen.iblk m c 1 t))) (Gen.k0_pay11 (Gen.k0_pay5 (Gen.iblk m c 1 t)))
            (FloatOps.ofBits .f32 0x40000000#32) (Gen.iblk m c 3 t))
          (scratch (Gen.k0_pay8 (F := Ideal) (Gen.k0_pay3 (Gen.iblk m c 1 t)) (Gen.k0_pay6 (Gen.iblk m c 1 t)) (Gen.k0_pay7 (Gen.iblk m c 1 t))
            (FloatOps.ofBits .f32 0x42800000#32) (Gen.iblk m c 2 t)) (Gen.iblk m c 0 t)) := by
  funext y
  unfold Gen.outsAt0 Gen.out0_A_4
  rw [View.read_writes_junk_eq_canon]
  have hy := Gen.cover0_A_4 c (grid0.coords t) (Gen.ms0_0 t) (Gen.hs0_0 t) (Gen.ms0_1 t) (Gen.hs0_1 t) (Gen.ms0_2 t) (Gen.hs0_2 t) (Gen.ms0_3 t) (Gen.hs0_3 t)
    (Gen.ms0_4 t) (Gen.hs0_4 t) Gen.scM0_0 (Memref.isWhole_whole _) (Gen.iblk m c 0 t) (Gen.iblk m c 1 t) (Gen.iblk m c 2 t) (Gen.iblk m c 3 t) y
  generalize Gen.iblk m c 0 t = x0 at *
  generalize Gen.iblk m c 1 t = x1 at *
  generalize Gen.iblk m c 2 t = x2 at *
  generalize Gen.iblk m c 3 t = x3 at *
  refine View.canon_apply_of_pieces _ _ (View.PiecesOf.mem ?_) y hy
  have hS := scratch_eq c (Gen.ms0_0 t) (Gen.hs0_0 t) (Gen.ms0_1 t) (Gen.hs0_1 t) (Gen.ms0_2 t) (Gen.hs0_2 t) x0 x1 x2
  have h8 : Gen.kernelRun0_A.sl.r_8 (F := Ideal) c (Gen.ms0_1 t) (Gen.hs0_1 t) (Gen.ms0_3 t) (Gen.hs0_3 t) x1 x3
      = Gen.k0_pay12 (F := Ideal) (Gen.k0_pay10 (Gen.k0_pay4 x1) (Gen.k0_pay5 x1)) (Gen.k0_pay11 (Gen.k0_pay5 x1))
            (FloatOps.ofBits .f32 0x40000000#32) x3 := by
    frame_out
  have h5 : Gen.kernelRun0_A.sl.r_5 (F := Ideal) c (Gen.ms0_1 t) (Gen.hs0_1 t) (Gen.ms0_2 t) (Gen.hs0_2 t) x1 x2
      = Gen.k0_pay8 (F := Ideal) (Gen.k0_pay3 x1) (Gen.k0_pay6 x1) (Gen.k0_pay7 x1) (FloatOps.ofBits .f32 0x42800000#32) x2 := by
    frame_out
  rw [← h5, ← h8]
  unfold Gen.kernelRun0_A
  unfold Gen.kernelRun0_A.sl.r_23 Gen.kernelRun0_A.sl.r_22 Gen.kernelRun0_A.sl.r_20 Gen.kernelRun0_A.sl.v579 Gen.kernelRun0_A.sl.v587
    Gen.kernelRun0_A.sl.v595 Gen.kernelRun0_A.sl.v603 Gen.kernelRun0_A.sl.v611 Gen.kernelRun0_A.sl.v619 Gen.kernelRun0_A.sl.v627
  repeat refine ⟨fun x => slab_piece _ _ _ hS _ _ _ rfl (by decide) (by decide) x, ?_⟩
  trivial

end Cert.RoiAlign

end
-- ==== Proof.KernelHost.lean ====
/-
  What the arrays hold when the kernel is launched: the features as a matrix whose rows are the stacked picture rows
  and whose columns are pairs of a picture column and a channel; the boxes padded by zero boxes to a whole number of
  groups; and the two tables of pixel coordinates.
-/
module

public import proofs.«01_k».proof.Proof.Gen.KernelIdeal.Frame.Runs
public import proofs.«01_k».proof.Proof.KernelWeights
public import Idealize.ShloMosaic.Lib.StableHlo.ReadAt
public import Idealize.ShloMosaic.Lib.Claim

@[expose] public section

set_option maxRecDepth 16384

noncomputable section

namespace Cert.RoiAlign

open Idealize.ShloMosaic Idealize.ShloMosaic.TcCoe Idealize.ShloMosaic.Tactic Cert.KernelIdeal

/-- The remainder of a natural number by `16`, on the real line. -/
theorem remf_16 (n : ℕ) :
    Ideal.remf (((n : ℕ) : ℝ) : EReal) ((16 : ℝ) : EReal) = (((n % 16 : ℕ) : ℝ) : EReal) := by
  have hf : Ideal.truncInt ((n : ℝ) / 16) = ((n / 16 : ℕ) : ℤ) := by
    rw [Ideal.truncInt, if_pos (by positivity), Int.floor_eq_iff]
    have h := Nat.div_add_mod n 16
    have hm := Nat.mod_lt n (show 0 < 16 by norm_num)
    have h' : (16 : ℝ) * ((n / 16 : ℕ) : ℝ) + ((n % 16 : ℕ) : ℝ) = n := by exact_mod_cast h
    have hm' : ((n % 16 : ℕ) : ℝ) < 16 := by exact_mod_cast hm
    have h0 : (0 : ℝ) ≤ ((n % 16 : ℕ) : ℝ) := Nat.cast_nonneg _
    constructor
    · rw [Int.cast_natCast, le_div_iff₀ (by norm_num)]; linarith
    · rw [Int.cast_natCast, div_lt_iff₀ (by norm_num)]; linarith
  have h' : (16 : ℝ) * ((n / 16 : ℕ) : ℝ) + ((n % 16 : ℕ) : ℝ) = n := by exact_mod_cast Nat.div_add_mod n 16
  rw [Ideal.remf_coe, if_neg (by norm_num), hf, Int.cast_natCast]
  exact congrArg _ (by linarith)

/-- The quotient that the rounding meets is already whole. -/
theorem quot_16 (n : ℕ) :
    Ideal.div ((((n : ℕ) : ℝ) : EReal) - (((n % 16 : ℕ) : ℝ) : EReal)) ((16 : ℝ) : EReal)
      = (((n / 16 : ℕ) : ℝ) : EReal) := by
  have h' : (16 : ℝ) * ((n / 16 : ℕ) : ℝ) + ((n % 16 : ℕ) : ℝ) = n := by exact_mod_cast Nat.div_add_mod n 16
  rw [Ideal.div_coe (by norm_num), ← EReal.coe_sub, ← EReal.coe_mul]
  exact congrArg _ (by linarith)

/-- Rounding a natural number leaves it. -/
theorem round_nat (n : ℕ) :
    Ideal.liftRound Ideal.roundHalfAway (((n : ℕ) : ℝ) : EReal) = (((n : ℕ) : ℝ) : EReal) := by
  have h : Ideal.roundHalfAway (n : ℝ) = (n : ℤ) := by
    rw [Ideal.roundHalfAway, if_pos (Nat.cast_nonneg _), Int.floor_eq_iff]
    constructor <;> · rw [Int.cast_natCast]; linarith
  rw [Ideal.liftRound_coe, h, Int.cast_natCast]

/-- No correction is taken: a nonzero remainder has the divisor's sign. -/
theorem no_correction (n : ℕ) :
    IntOp.andi (BitVec.ofBool (decide ((((n : ℕ) : ℝ) : EReal) ≠ 0)))
      (BitVec.ofBool (decide (Ideal.sign ((16 : ℝ) : EReal) ≠ Ideal.sign (((n : ℕ) : ℝ) : EReal)))) = 0#1 := by
  rcases Nat.eq_zero_or_pos n with h | h
  · subst h; simp [IntOp.andi]
  · rw [Ideal.sign_of_pos (a := ((16 : ℝ) : EReal)) (EReal.coe_pos.mpr (by norm_num)),
      Ideal.sign_of_pos (a := (((n : ℕ) : ℝ) : EReal)) (EReal.coe_pos.mpr (by exact_mod_cast h))]
    simp [IntOp.andi]

/-- The signed remainder of a column number by `16`, as the program words it. -/
theorem remainder_word (q : Fin 1024) :
    Scalar.select
      (IntOp.andi (IntOp.cmpi .ne (IntOp.cmpi .slt (IntOp.remsi .host (BitVec.ofNat 32 q.val) 16#32) 0#32) 0#1)
        (IntOp.cmpi .ne (IntOp.remsi .host (BitVec.ofNat 32 q.val) 16#32) 0#32))
      (IntOp.addi (IntOp.remsi .host (BitVec.ofNat 32 q.val) 16#32) 16#32)
      (IntOp.remsi .host (BitVec.ofNat 32 q.val) 16#32) = BitVec.ofNat 32 (q.val % 16) := by
  revert q; decide +kernel

/-- The features at launch: row `b * 64 + y`, column `x * 256 + c` holds channel `c` of pixel `(y, x)` of picture `b`. -/
theorem V_feat (m : (ℓ : Loc nD τ sig) → Buf (Elt Ideal) ℓ) (c : Dev nD) (r : Fin 256) (q : Fin 16384) :
    Gen.V m c main_v4 (ix2 r q) = m ((c : Thread nD τ).loc main_arg0) (ix4 ⟨r.val / 64, by omega⟩ ⟨q.val % 256, by omega⟩ ⟨r.val % 64, by omega⟩ ⟨q.val / 256, by omega⟩) := by
  unfold_abbrev_sides
  after_reads_at

/-- The boxes at launch: the first thousand rows are the boxes given. -/
theorem V_boxes (m : (ℓ : Loc nD τ sig) → Buf (Elt Ideal) ℓ) (c : Dev nD) (r : Fin 1008) (q : Fin 5) (hr : r.val < 1000) :
    Gen.V m c main_v1 (ix2 r q) = m ((c : Thread nD τ).loc main_arg1) (ix2 ⟨r.val, hr⟩ q) := by
  unfold_abbrev_sides
  after_reads_at
  rw [dif_pos hr]

/-- The table of row coordinates at launch. -/
theorem V_rows (m : (ℓ : Loc nD τ sig) → Buf (Elt Ideal) ℓ) (c : Dev nD) (j : Fin 256) :
    Gen.V m c main_v6 (ix2 0 j) = (((j.val : ℕ) : ℝ) : EReal) := by
  unfold_abbrev_sides
  after_reads_at
  exact sitofp_ofNat _ (by omega)

/-- The table of column coordinates at launch: column `q` stands for picture column `q / 16` in the slot of box
    `q % 16`, moved out of the other boxes' reach by `64` for each box. -/
theorem V_cols (m : (ℓ : Loc nD τ sig) → Buf (Elt Ideal) ℓ) (c : Dev nD) (q : Fin 1024) :
    Gen.V m c main_v15 (ix2 0 q) = (((((q.val/16:ℕ):ℝ) + ((q.val%16:ℕ):ℝ)*64):ℝ):EReal) := by
  unfold_abbrev_sides
  after_reads_at
  have h16 : FloatOps.sitofp (F := Ideal) FTy.f32 16#32 = ((16 : ℝ) : EReal) :=
    (sitofp_ofNat 16 (by omega)).trans (by norm_num)
  have hne : ((16 : ℝ) : EReal) ≠ 0 := by
    intro h; exact absurd (EReal.coe_eq_zero.mp h) (by norm_num)
  have hid : (id (constantI S_ 32 16#32) ix0 : BitVec 32) = 16#32 := rfl
  have hd : Scalar.select (IntOp.cmpi CmpIPredicate.eq (16#32) 0#32) (1#32) (16#32) = 16#32 := by decide
  have hs : IntOp.cmpi CmpIPredicate.slt (16#32) 0#32 = 0#1 := by decide
  simp only [hid, hd, hs, h16]
  rw [sitofp_ofNat q.val (by omega), remf_16, no_correction, remainder_word, sitofp_ofNat (q.val % 16) (by omega), bits_64]
  rw [if_neg hne, quot_16]
  simp only [Scalar.select]
  rw [if_neg (by decide), round_nat, ← EReal.coe_mul, ← EReal.coe_add]

end Cert.RoiAlign

end
-- ==== Proof.KernelArray.lean ====
/-
  What the output array of the launch holds: the sixty-three blocks tile it, and each entry is the sum, over pairs of a
  column and a box of the group and over the rows of all the pictures, of the two weights times the feature.
-/
module

public import proofs.«01_k».proof.Proof.KernelBlock
public import proofs.«01_k».proof.Proof.KernelHost

@[expose] public section

set_option maxRecDepth 16384

noncomputable section

namespace Cert.RoiAlign

open Idealize.ShloMosaic Idealize.ShloMosaic.TcCoe Idealize.ShloMosaic.Tactic Cert.KernelIdeal

/-- The weight of the stacked row `j` for bin row `p` of a box. -/
def rowWeight (box : Fin 5 → EReal) (p : Fin 7) (j : ℕ) : EReal :=
  ((∑ i : Fin 2, half (coord (box 2) (box 4) p i)
      * tent (clip (coord (box 2) (box 4) p i)
          + ((FloatOps.fptosi (F := Ideal) (φ := .f32) 32 (box 0)).toInt : ℝ) * 64 - (j : ℝ)) : ℝ) : EReal)

/-- The weight of the pair `q` of a column and a box, for bin column `p` of the box in slot `k` of its group. -/
def colWeight (box : Fin 5 → EReal) (k : Fin 16) (p : Fin 7) (q : ℕ) : EReal :=
  ((∑ i : Fin 2, half (coord (box 1) (box 3) p i)
      * tent (clip (coord (box 1) (box 3) p i) + (k.val : ℝ) * 64
          - (((q / 16 : ℕ) : ℝ) + ((q % 16 : ℕ) : ℝ) * 64)) : ℝ) : EReal)

/-- The output array, from the features laid out as a matrix and the padded boxes. -/
def whole (feat : Vec Ideal S256x16384 .bf16) (boxes : Vec Ideal S1008x5 .f32) : Vec Ideal S7x7x1008x256 .bf16 := fun y =>
  ∑ q : Fin 1024, colWeight (fun a => boxes (ix2 (y 2) a)) ⟨(y 2).val % 16, Nat.mod_lt _ (by norm_num)⟩ (y 1) q.val
    * ∑ j : Fin 256,
        rowWeight (fun a => boxes (ix2 ⟨(y 2).val / 16 * 16 + q.val % 16, by have := (y 2).isLt; change (y 2).val < 1008 at this; omega⟩ a)) (y 0) j.val
          * feat (ix2 j ⟨q.val / 16 * 256 + (y 3).val, by have := (y 3).isLt; change (y 3).val < 256 at this; omega⟩)

/-- Which block each window reads at each grid point. -/
theorem index_eq : ∀ t : Fin cfg0.N, win0_0.index t = ![0, 0] ∧ win0_1.index t = ![t.val, 0] ∧ win0_2.index t = ![0, 0]
    ∧ win0_3.index t = ![0, 0] ∧ win0_4.index t = ![0, 0, t.val, 0] := by decide +kernel

/-- The features are handed to every step whole. -/
theorem index0 (t : Fin cfg0.N) : win0_0.index t = ![0, 0] := (index_eq t).1
/-- Step `t` is handed the `t`-th sixteen boxes. -/
theorem index1 (t : Fin cfg0.N) : win0_1.index t = ![t.val, 0] := (index_eq t).2.1
/-- The row numbers are handed to every step whole. -/
theorem index2 (t : Fin cfg0.N) : win0_2.index t = ![0, 0] := (index_eq t).2.2.1
/-- The column numbers are handed to every step whole. -/
theorem index3 (t : Fin cfg0.N) : win0_3.index t = ![0, 0] := (index_eq t).2.2.2.1
/-- Step `t` writes the results of the `t`-th sixteen boxes. -/
theorem index4 (t : Fin cfg0.N) : win0_4.index t = ![0, 0, t.val, 0] := (index_eq t).2.2.2.2

variable (m : (ℓ : Loc nD τ sig) → Buf (Elt Ideal) ℓ) (c : Dev nD)

/-- The feature block is the whole matrix. -/
theorem iblk0 (t : Fin cfg0.N) (j : Fin 256) (q : Fin 16384) :
    Gen.iblk m c 0 t (ix2 j q) = Gen.V m c main_v4 (ix2 j q) := by
  blk_ext [Gen.iblk, index0 t]

/-- The box block is the group's sixteen boxes. -/
theorem iblk1 (t : Fin cfg0.N) (k : Fin 16) (a : Fin 5) :
    Gen.iblk m c 1 t (ix2 k a) = Gen.V m c main_v1 (ix2 ⟨t.val * 16 + k.val, by have := t.isLt; change t.val < 63 at this; omega⟩ a) := by
  blk_ext [Gen.iblk, index1 t]

/-- The row table's block is the whole table. -/
theorem iblk2 (t : Fin cfg0.N) (j : Fin 256) :
    Gen.iblk m c 2 t (ix2 0 j) = (((j.val : ℕ) : ℝ) : EReal) := by
  rw [← V_rows m c j]
  blk_ext [Gen.iblk, index2 t]

/-- The column table's block is the whole table. -/
theorem iblk3 (t : Fin cfg0.N) (q : Fin 1024) :
    Gen.iblk m c 3 t (ix2 0 q) = (((((q.val/16:ℕ):ℝ) + ((q.val%16:ℕ):ℝ)*64):ℝ):EReal) := by
  rw [← V_cols m c q]
  blk_ext [Gen.iblk, index3 t]

/-- One entry of the block that the body computes from a group's features, boxes and coordinate tables. -/
theorem block_apply (x0 : Vec Ideal S256x16384 .bf16) (x1 : Vec Ideal S16x5 .f32) (x2 : Vec Ideal S1x256 .f32) (x3 : Vec Ideal S1x1024 .f32)
    (h2 : ∀ j : Fin 256, x2 (ix2 0 j) = (((j.val : ℕ) : ℝ) : EReal))
    (h3 : ∀ q : Fin 1024, x3 (ix2 0 q) = (((((q.val/16:ℕ):ℝ) + ((q.val%16:ℕ):ℝ)*64):ℝ):EReal))
    (ph pw : Fin 7) (k : Fin 16) (ch : Fin 256) :
    block (Gen.k0_pay12 (F := Ideal) (Gen.k0_pay10 (Gen.k0_pay4 x1) (Gen.k0_pay5 x1)) (Gen.k0_pay11 (Gen.k0_pay5 x1))
            (FloatOps.ofBits .f32 0x40000000#32) x3)
          (scratch (Gen.k0_pay8 (F := Ideal) (Gen.k0_pay3 x1) (Gen.k0_pay6 x1) (Gen.k0_pay7 x1)
            (FloatOps.ofBits .f32 0x42800000#32) x2) x0) (ix4 ph pw k ch)
      = ∑ q : Fin 1024, colWeight (fun a => x1 (ix2 k a)) k pw q.val
          * ∑ j : Fin 256, rowWeight (fun a => x1 (ix2 ⟨q.val % 16, Nat.mod_lt _ (by norm_num)⟩ a)) ph j.val
              * x0 (ix2 j ⟨q.val / 16 * 256 + ch.val, by omega⟩) := by
  have hc := fun q : Fin 1024 => colWeights_apply x1 x3 h3 k pw ⟨pw.val * 16 + k.val, by omega⟩ q rfl
  have hr := fun (q : Fin 1024) (j : Fin 256) => rowWeights_apply x1 x2 h2 ⟨q.val % 16, Nat.mod_lt _ (by norm_num)⟩ ph
    ⟨ph.val * 16 + q.val % 16, by omega⟩ j rfl
  generalize Gen.k0_pay12 (F := Ideal) (Gen.k0_pay10 (Gen.k0_pay4 x1) (Gen.k0_pay5 x1)) (Gen.k0_pay11 (Gen.k0_pay5 x1))
            (FloatOps.ofBits .f32 0x40000000#32) x3 = bd at *
  generalize Gen.k0_pay8 (F := Ideal) (Gen.k0_pay3 x1) (Gen.k0_pay6 x1) (Gen.k0_pay7 x1)
            (FloatOps.ofBits .f32 0x42800000#32) x2 = w at *
  unfold block scratch
  refine Finset.sum_congr rfl fun q _ => congrArg₂ (· * ·) (hc q) ?_
  exact Finset.sum_congr rfl fun j _ => congrArg (· * _) (hr q j)

/-- One entry of a grid point's block is the array's entry at its place. -/
theorem block_entry (t : Fin cfg0.N) (ph pw : Fin 7) (k : Fin 16) (ch : Fin 256) :
    Gen.outsAt0 m c t (ix4 ph pw k ch)
      = whole (Gen.V m c main_v4) (Gen.V m c main_v1)
          (ix4 ph pw ⟨t.val * 16 + k.val, by have := t.isLt; change t.val < 63 at this; omega⟩ ch) := by
  have ht : t.val < 63 := t.isLt
  rw [outsAt_eq, block_apply _ _ _ _ (iblk2 m c t) (iblk3 m c t)]
  have h0 := iblk0 m c t
  have h1 := iblk1 m c t
  generalize Gen.iblk m c 0 t = x0 at *
  generalize Gen.iblk m c 1 t = x1 at *
  generalize Gen.V m c main_v4 = f at *
  generalize Gen.V m c main_v1 = b at *
  unfold whole
  refine Finset.sum_congr rfl fun q _ => ?_
  have hk : (⟨(t.val * 16 + k.val) % 16, Nat.mod_lt _ (by norm_num)⟩ : Fin 16) = k :=
    Fin.ext (by show (t.val * 16 + k.val) % 16 = k.val; omega)
  refine congrArg₂ (· * ·) ?_ (Finset.sum_congr rfl fun j _ => congrArg₂ (· * ·) ?_ (h0 _ _))
  · exact congrArg₂ (fun x y => colWeight x y pw q.val) (funext fun a => h1 k a) hk.symm
  · refine congrArg (fun x => rowWeight x ph j.val) (funext fun a => (h1 _ a).trans ?_)
    refine congrArg (fun n => b (ix2 n a)) (Fin.ext ?_)
    show t.val * 16 + q.val % 16 = (t.val * 16 + k.val) / 16 * 16 + q.val % 16
    omega

/-- The launch's output array. -/
theorem array_eq : (Gen.dats m 0 c).arrAt 4 (cfgs 0).N = whole (Gen.V m c main_v4) (Gen.V m c main_v1) := by
  refine (Gen.dats m 0 c).arrAt_eq_of_covers 4 _ (by decide +kernel) fun t hf y => ?_
  blk_simp
  rw [Gen.after0_4]
  have hy : y = (ix4 (n0 := 7) (n1 := 7) (n2 := 16) (n3 := 256) (y 0) (y 1) (y 2) (y 3)) := by
    funext d; fin_cases d <;> rfl
  refine ((congrArg (Gen.outsAt0 m c t) hy).trans (block_entry m c t (y 0) (y 1) (y 2) (y 3))).trans ?_
  generalize Gen.V m c main_v4 = f at *
  generalize Gen.V m c main_v1 = b at *
  generalize whole f b = w
  blk_ext [index4 t]

end Cert.RoiAlign

end
-- ==== Proof.Value.lean ====
/-
  The value that both programs compute: for a box, a bin and a channel, the tent-weighted sum over the pixels of that
  channel in the picture that the box names.
-/
module

public import proofs.«01_k».proof.Proof.Consts
public import proofs.«01_k».proof.Proof.Bilinear

@[expose] public section

noncomputable section

namespace Cert.RoiAlign

open Idealize.ShloMosaic

/-- The picture that box `n` names, as a signed integer. -/
def batchInt (x1 : Vec Ideal ⟨2, ![1000, 5]⟩ .f32) (n : Fin 1000) : ℤ :=
  (FloatOps.fptosi (F := Ideal) (φ := .f32) 32 (x1 (ix2 n 0))).toInt

/-- Every box names one of the four pictures. -/
def InRange (x1 : Vec Ideal ⟨2, ![1000, 5]⟩ .f32) : Prop := ∀ n : Fin 1000, 0 ≤ batchInt x1 n ∧ batchInt x1 n < 4

/-- The picture that box `n` names. -/
def batch (x1 : Vec Ideal ⟨2, ![1000, 5]⟩ .f32) (n : Fin 1000) : Fin 4 := ⟨min (batchInt x1 n).toNat 3, by omega⟩

/-- Where every box names a picture, its number is the integer in the first column. -/
theorem batch_val {x1 : Vec Ideal ⟨2, ![1000, 5]⟩ .f32} (h : InRange x1) (n : Fin 1000) : ((batch x1 n).val : ℤ) = batchInt x1 n := by
  have := h n
  show ((min (batchInt x1 n).toNat 3 : ℕ) : ℤ) = _
  omega

/-- The value of the programs: bin `(i 2, i 3)` of box `i 0` in channel `i 1`. -/
def result (x0 : Vec Ideal ⟨4, ![4, 256, 64, 64]⟩ .f32) (x1 : Vec Ideal ⟨2, ![1000, 5]⟩ .f32) : Vec Ideal ⟨4, ![1000, 256, 7, 7]⟩ .f32 := fun i =>
  pooled (fun s => coord (x1 (ix2 (i 0) 2)) (x1 (ix2 (i 0) 4)) (i 2).val s.val)
    (fun s => coord (x1 (ix2 (i 0) 1)) (x1 (ix2 (i 0) 3)) (i 3).val s.val)
    fun y x => x0 (ix4 (batch x1 (i 0)) (i 1) y x)

end Cert.RoiAlign

end
-- ==== Proof.KernelValue.lean ====
/-
  What the kernel's program returns: each entry is the tent-weighted sum, over one channel of the picture that the box
  names, of the pixels of that channel.
-/
module

public import proofs.«01_k».proof.Proof.KernelArray
public import proofs.«01_k».proof.Proof.Value

@[expose] public section

set_option maxRecDepth 16384

noncomputable section

namespace Cert.RoiAlign

open Idealize.ShloMosaic Idealize.ShloMosaic.TcCoe Idealize.ShloMosaic.Tactic Cert.KernelIdeal

/-- The row weights of a box over the stacked rows of all the pictures meet the rows of the picture it names only. -/
theorem picture_sum (x0 : Vec Ideal ⟨4, ![4, 256, 64, 64]⟩ .f32) (x1 : Vec Ideal ⟨2, ![1000, 5]⟩ .f32) (hx : InRange x1)
    (n : Fin 1000) (ch : Fin 256) (ph : Fin 7) (x : Fin 64) :
    (∑ j : Fin 256, rowWeight (fun a => x1 (ix2 n a)) ph j.val * x0 (ix4 ⟨j.val / 64, by omega⟩ ch ⟨j.val % 64, by omega⟩ x))
      = ∑ y : Fin 64, ((axisWeight (fun s : Fin 2 => coord (x1 (ix2 n 2)) (x1 (ix2 n 4)) ph.val s.val) (y.val : ℝ) : ℝ) : EReal)
          * x0 (ix4 (batch x1 n) ch y x) := by
  have key := rows_sum (fun s => coord (x1 (ix2 n 2)) (x1 (ix2 n 4)) ph.val s.val) (batch x1 n)
    (fun j => x0 (ix4 ⟨j.val / 64, by omega⟩ ch ⟨j.val % 64, by omega⟩ x))
  have hbat : ((batch x1 n).val : ℝ) = ((FloatOps.fptosi (F := Ideal) (φ := .f32) 32 (x1 (ix2 n 0))).toInt : ℝ) := by
    have := batch_val hx n
    exact_mod_cast this
  rw [hbat] at key
  refine key.trans (Finset.sum_congr rfl fun y _ => congrArg _ ?_)
  have hb4 := (batch x1 n).isLt
  refine congrArg₂ (fun p r => x0 (ix4 p ch r x)) (Fin.ext ?_) (Fin.ext ?_)
  · show ((batch x1 n).val * 64 + y.val) / 64 = (batch x1 n).val; omega
  · show ((batch x1 n).val * 64 + y.val) % 64 = y.val; omega

/-- The array's entry, for a box that is not padding and names a picture. -/
theorem whole_apply (x0 : Vec Ideal ⟨4, ![4, 256, 64, 64]⟩ .f32) (x1 : Vec Ideal ⟨2, ![1000, 5]⟩ .f32) (hx : InRange x1)
    (f : Vec Ideal S256x16384 .bf16) (b : Vec Ideal S1008x5 .f32)
    (hf : ∀ (r : Fin 256) (q : Fin 16384), f (ix2 r q) = x0 (ix4 ⟨r.val / 64, by omega⟩ ⟨q.val % 256, by omega⟩ ⟨r.val % 64, by omega⟩ ⟨q.val / 256, by omega⟩))
    (hb : ∀ (r : Fin 1008) (q : Fin 5) (hr : r.val < 1000), b (ix2 r q) = x1 (ix2 ⟨r.val, hr⟩ q))
    (n : Fin 1000) (ch : Fin 256) (ph pw : Fin 7) :
    whole f b (ix4 ph pw ⟨n.val, by omega⟩ ch) = result x0 x1 (ix4 n ch ph pw) := by
  have hself : (fun a => b (ix2 ⟨n.val, by omega⟩ a)) = fun a => x1 (ix2 n a) := funext fun a => hb _ a n.isLt
  unfold whole result pooled
  refine Eq.trans (Finset.sum_congr rfl fun q _ => congrArg (fun box : Fin 5 → EReal => colWeight box ⟨n.val % 16, Nat.mod_lt _ (by norm_num)⟩ pw q.val * _) hself) ?_
  refine Eq.trans (b := (∑ x : Fin 64, _ : EReal)) (cols_sum (fun s => coord (x1 (ix2 n 1)) (x1 (ix2 n 3)) pw.val s.val) ⟨n.val % 16, Nat.mod_lt _ (by norm_num)⟩ _) ?_
  refine Finset.sum_congr rfl fun x _ => congrArg _ ?_
  have hm : (x.val * 16 + n.val % 16) % 16 = n.val % 16 := by omega
  have hd : (x.val * 16 + n.val % 16) / 16 = x.val := by omega
  have hn : n.val / 16 * 16 + (x.val * 16 + n.val % 16) % 16 = n.val := by omega
  have hbox : (fun a => b (ix2 ⟨n.val / 16 * 16 + (x.val * 16 + n.val % 16) % 16, by omega⟩ a)) = fun a => x1 (ix2 n a) :=
    funext fun a => (hb _ a (by show n.val / 16 * 16 + (x.val * 16 + n.val % 16) % 16 < 1000; omega)).trans
      (congrArg (fun k => x1 (ix2 k a)) (Fin.ext hn))
  have hcol : ∀ j : Fin 256, f (ix2 j ⟨(x.val * 16 + n.val % 16) / 16 * 256 + ch.val, by omega⟩)
      = x0 (ix4 ⟨j.val / 64, by omega⟩ ch ⟨j.val % 64, by omega⟩ x) := by
    intro j
    rw [hf]
    congr 1
    refine congrArg₂ (fun c y => ix4 _ c _ y) (Fin.ext ?_) (Fin.ext ?_)
    · show ((x.val * 16 + n.val % 16) / 16 * 256 + ch.val) % 256 = ch.val; omega
    · show ((x.val * 16 + n.val % 16) / 16 * 256 + ch.val) / 256 = x.val; omega
  refine Eq.trans (Finset.sum_congr rfl fun j _ => congrArg₂ (· * ·) (congrArg (fun w => rowWeight w ph j.val) hbox) (hcol j)) ?_
  exact picture_sum x0 x1 hx n ch ph x

variable (m : (ℓ : Loc nD τ sig) → Buf (Elt Ideal) ℓ) (c : Dev nD)

/-- The kernel's program returns the value, where every box names a picture. -/
theorem kernel_value (hx : InRange (m ((c : Thread nD τ).loc main_arg1))) :
    Pipeline.afterTail₀ cfgs (Gen.dats m) 0 (Gen.V0 m) [Gen.hostOps1] c main_v19
      = result (m ((c : Thread nD τ).loc main_arg0)) (m ((c : Thread nD τ).loc main_arg1)) := by
  funext i
  have hi : i = (ix4 (n0 := 1000) (n1 := 256) (n2 := 7) (n3 := 7) (i 0) (i 1) (i 2) (i 3)) := by
    funext d; fin_cases d <;> rfl
  have h4 : Pipeline.withArrays (cfgs 0).spec c (Gen.V0 m c) (fun w => (Gen.dats m 0 c).arrAt w (cfgs 0).N) (Proc.tc.devRef main_v16)
      = whole (Gen.V m c main_v4) (Gen.V m c main_v1) :=
    (Pipeline.withArrays_arr (cfgs 0).spec Gen.launch0.win.arr_inj c (Gen.V0 m c) (fun w => (Gen.dats m 0 c).arrAt w (cfgs 0).N) 4).trans (array_eq m c)
  rw [hi]
  generalize i 0 = n, i 1 = ch, i 2 = ph, i 3 = pw
  unfold Pipeline.afterTail₀
  after_reads_at
  rw [h4]
  exact whole_apply _ _ hx _ _ (V_feat m c) (V_boxes m c) n ch ph pw

end Cert.RoiAlign

end
-- ==== Proof.RefCoords.lean ====
/-
  The sample coordinates of the reference: of box `n`, sample number `s` counts the bins row by row and, inside a bin,
  the four samples row by row.
-/
module

public import proofs.«01_k».proof.Proof.Gen.ReferenceIdeal.Read
public import proofs.«01_k».proof.Proof.Consts

@[expose] public section

set_option maxRecDepth 16384

noncomputable section

namespace Cert.RoiAlign

open Idealize.ShloMosaic Cert.ReferenceIdeal

/-- The row coordinate of each sample. -/
theorem ref_y (x1 : Vec Ideal S1000x5 .f32) (n : Fin 1000) (s : Fin 196) :
    Read.val_main_v77 (F := Ideal) x1 (ix2 n s) = coord (x1 (ix2 n 2)) (x1 (ix2 n 4)) (s.val / 28) (s.val / 2 % 2) := by
  pointwise [
    Read.val_main_v77, Read.val_main_v74, Read.val_main_v73, Read.val_main_v52, Read.val_main_v51, Read.val_main_v49, Read.val_main_v48,
    Read.val_main_cst_8, Read.val_main_v47, Read.val_main_v46, Read.val_main_v44, Read.val_main_v26, Read.val_main_v25, Read.val_main_cst_5,
    Read.val_main_v24, Read.val_main_v23, Read.val_main_cst_4, Read.val_main_v22, Read.val_main_v18, Read.val_main_v17, Read.val_main_cst_2,
    Read.val_main_v16, Read.val_main_v15, Read.val_main_v10, Read.val_main_v9, Read.val_main_cst_0, Read.val_main_v8, Read.val_main_v7,
    Read.val_main_v45, Read.val_main_v43, Read.val_main_v42, Read.val_main_cst_7, Read.val_main_v41, Read.val_main_v31, Read.val_main_v50,
    Read.val_main_v40, Read.val_main_v39, Read.val_main_v33, Read.val_main_v38, Read.val_main_v37, Read.val_main_v35, Read.val_main_v36,
    Read.val_main_v34, Read.val_main_v29]
  rw [bits_64, bits_7, bits_half, bits_2, sitofp_ofNat _ (by omega), sitofp_ofNat _ (by omega)]
  rfl

/-- The column coordinate of each sample. -/
theorem ref_x (x1 : Vec Ideal S1000x5 .f32) (n : Fin 1000) (s : Fin 196) :
    Read.val_main_v78 (F := Ideal) x1 (ix2 n s) = coord (x1 (ix2 n 1)) (x1 (ix2 n 3)) (s.val / 4 % 7) (s.val % 2) := by
  pointwise [
    Read.val_main_v78, Read.val_main_v76, Read.val_main_v75, Read.val_main_v72, Read.val_main_v71, Read.val_main_v69, Read.val_main_v68,
    Read.val_main_cst_10, Read.val_main_v67, Read.val_main_v66, Read.val_main_v64, Read.val_main_v28, Read.val_main_v27, Read.val_main_cst_6,
    Read.val_main_v21, Read.val_main_v20, Read.val_main_cst_3, Read.val_main_v19, Read.val_main_v6, Read.val_main_v5, Read.val_main_cst,
    Read.val_main_v4, Read.val_main_v3, Read.val_main_v14, Read.val_main_v13, Read.val_main_cst_1, Read.val_main_v12, Read.val_main_v11,
    Read.val_main_v65, Read.val_main_v63, Read.val_main_v62, Read.val_main_cst_9, Read.val_main_v61, Read.val_main_v32, Read.val_main_v70,
    Read.val_main_v60, Read.val_main_v59, Read.val_main_v53, Read.val_main_v58, Read.val_main_v57, Read.val_main_v55, Read.val_main_v56,
    Read.val_main_v54, Read.val_main_v30]
  rw [bits_64, bits_7, bits_half, bits_2, sitofp_ofNat _ (by omega), sitofp_ofNat _ (by omega)]
  rfl

end Cert.RoiAlign

end
-- ==== Proof.RefAxis.lean ====
/-
  Along one axis, the reference turns a sample's coordinate into the two pixels next to it and the fraction between
  them, by rounding down to an integer word and correcting at the picture's edge. For a sample inside the picture these
  are the pixels and the fraction of the coordinate clipped to the picture.
-/
module

public import proofs.«01_k».proof.Proof.Consts
public import proofs.«01_k».proof.Proof.Bilinear

@[expose] public section

noncomputable section

namespace Cert.RoiAlign

open Idealize.ShloMosaic

/-- The coordinate, moved up to the first pixel and rounded down, as a word. -/
def floorWord (Y : EReal) : BitVec 32 := FloatOps.fptosi (F := Ideal) (φ := .f32) 32 (Ideal.liftRound Int.floor (max Y 0))

/-- Whether the word is at the last pixel or beyond. -/
def atEdge (Y : EReal) : BitVec 1 := IntOp.cmpi .sge (floorWord Y) 63#32

/-- The lower pixel. -/
def loWord (Y : EReal) : BitVec 32 := Scalar.select (atEdge Y) 63#32 (floorWord Y)

/-- The upper pixel. -/
def hiWord (Y : EReal) : BitVec 32 := Scalar.select (atEdge Y) 63#32 (IntOp.addi (loWord Y) 1#32)

/-- The fraction between them. -/
def fraction (Y : EReal) : EReal :=
  Scalar.select (atEdge Y) 0 (max Y 0 - FloatOps.sitofp (F := Ideal) FTy.f32 (loWord Y))

/-- A valid coordinate is a real number. -/
theorem valid_real {Y : EReal} (h : Valid Y) : ∃ r : ℝ, Y = (r : EReal) ∧ -1 ≤ r ∧ r ≤ 64 := by
  obtain ⟨h1, h2⟩ := h
  induction Y using EReal.rec with
  | bot => exact absurd h1 (not_le.mpr (EReal.bot_lt_coe _))
  | top => exact absurd h2 (not_le.mpr (EReal.coe_lt_top _))
  | coe r => exact ⟨r, rfl, EReal.coe_le_coe_iff.mp h1, EReal.coe_le_coe_iff.mp h2⟩

/-- The word of a valid coordinate counts the whole pixels below it. -/
theorem floorWord_eq {r : ℝ} (h : r ≤ 64) : floorWord (r : EReal) = BitVec.ofNat 32 ⌊max r 0⌋₊ := by
  have h0 : (0 : ℝ) ≤ max r 0 := le_max_right _ _
  have h64 : max r 0 ≤ 64 := max_le h (by norm_num)
  have hm : max (r : EReal) 0 = ((max r 0 : ℝ) : EReal) := by
    rw [← EReal.coe_zero]; exact (EReal.coe_strictMono.monotone.map_max).symm
  have hn : ⌊max r 0⌋ = ((⌊max r 0⌋₊ : ℕ) : ℤ) := (Int.natCast_floor_eq_floor h0).symm
  have hN : ⌊max r 0⌋₊ ≤ 64 := by
    have := Nat.floor_le_floor h64
    simpa using this
  unfold floorWord
  rw [hm, Ideal.liftRound_coe, hn]
  generalize ⌊max r 0⌋₊ = N at hN
  show BitVec.ofInt 32 (Ideal.toIntClamped _ _ _) = _
  rw [Ideal.toIntClamped_coe, if_pos (by positivity)]
  have hf : ⌊(((N : ℕ) : ℤ) : ℝ)⌋ = ((N : ℕ) : ℤ) := Int.floor_intCast _
  rw [hf]
  interval_cases N <;> rfl

/-- The clipped coordinate of a real coordinate. -/
theorem clip_real (r : ℝ) : clip (r : EReal) = min (max r 0) 63 := by
  have h : ((clip (r : EReal) : ℝ) : EReal) = ((min (max r 0) 63 : ℝ) : EReal) := by
    rw [coe_clip, ← EReal.coe_zero]
    rw [← EReal.coe_strictMono.monotone.map_max, ← EReal.coe_strictMono.monotone.map_min]
  exact EReal.coe_eq_coe_iff.mp h

/-- Away from the edge the word is the lower pixel, the next the upper, and the fraction what is left; at the edge all
    is the last pixel. -/
theorem axis_words {Y : EReal} (h : Valid Y) :
    loWord Y = BitVec.ofNat 32 (lo (clip Y)).val ∧ hiWord Y = BitVec.ofNat 32 (hi (clip Y)).val
      ∧ fraction Y = ((fr (clip Y) : ℝ) : EReal) := by
  obtain ⟨r, rfl, -, h64⟩ := valid_real h
  have h0 : (0 : ℝ) ≤ max r 0 := le_max_right _ _
  have hm64 : max r 0 ≤ 64 := max_le h64 (by norm_num)
  have hm : max (r : EReal) 0 = ((max r 0 : ℝ) : EReal) := by
    rw [← EReal.coe_zero]; exact (EReal.coe_strictMono.monotone.map_max).symm
  have hN : ⌊max r 0⌋₊ ≤ 64 := by
    have := Nat.floor_le_floor hm64
    simpa using this
  rw [clip_real]
  unfold fraction hiWord loWord atEdge
  rw [floorWord_eq h64, hm]
  rcases Nat.lt_or_ge ⌊max r 0⌋₊ 63 with hlt | hge
  · have hlt' : max r 0 < 63 := by
      have := Nat.lt_of_floor_lt hlt
      exact_mod_cast this
    rw [min_eq_left hlt'.le]
    have hlo : (lo (max r 0)).val = ⌊max r 0⌋₊ := lo_val hlt'.le
    have hhi : (hi (max r 0)).val = ⌊max r 0⌋₊ + 1 := min_eq_left (by omega)
    have hc : IntOp.cmpi .sge (BitVec.ofNat 32 ⌊max r 0⌋₊) 63#32 = 0#1 := by
      generalize ⌊max r 0⌋₊ = N at hlt
      interval_cases N <;> rfl
    rw [hc, hlo, hhi]
    refine ⟨rfl, ?_, ?_⟩
    · show BitVec.ofNat 32 ⌊max r 0⌋₊ + BitVec.ofNat 32 1 = _
      rw [← BitVec.ofNat_add]
    · show ((max r 0 : ℝ) : EReal) - FloatOps.sitofp (F := Ideal) FTy.f32 (BitVec.ofNat 32 ⌊max r 0⌋₊) = _
      rw [sitofp_ofNat _ (by omega), ← EReal.coe_sub, fr, hlo]
  · have hge' : 63 ≤ max r 0 := by
      have := (Nat.le_floor_iff h0).mp hge
      exact_mod_cast this
    rw [min_eq_right hge']
    have hfl : ⌊(63 : ℝ)⌋₊ = 63 := by simp
    have hlo : (lo 63).val = 63 := by rw [lo_val le_rfl, hfl]
    have hhi : (hi 63).val = 63 := by
      show min (⌊(63 : ℝ)⌋₊ + 1) 63 = 63
      rw [hfl]; rfl
    have hc : IntOp.cmpi .sge (BitVec.ofNat 32 ⌊max r 0⌋₊) 63#32 = 1#1 := by
      generalize ⌊max r 0⌋₊ = N at hN hge
      interval_cases N <;> rfl
    rw [hc, hlo, hhi]
    refine ⟨rfl, rfl, ?_⟩
    show (0 : EReal) = _
    rw [fr, hlo]; norm_num

end Cert.RoiAlign

end
-- ==== Proof.RefGather.lean ====
/-
  The reference's gather: at a picture's number and a pixel's number, both in range, it reads that picture's pixel in
  every channel.
-/
module

public import proofs.«01_k».proof.Proof.Gen.ReferenceIdeal.Read
public import proofs.«01_k».proof.Proof.Consts

@[expose] public section

set_option maxRecDepth 16384

noncomputable section

namespace Cert.RoiAlign

open Idealize.ShloMosaic Cert.ReferenceIdeal

/-- What the gather reads, its two index words bounded to the array. -/
theorem gather_apply (x : Vec Ideal S4x256x4096 .f32) (idx : IVec S1000x196x2 32) (n : Fin 1000) (s : Fin 196) (ch : Fin 256) :
    Host.gather gather_S4x256x4096_S1000x196x2_S1000x196x256_2_02_n_n_02_2_12561 x idx (ix3 n s ch)
      = x (ix3 ⟨min (idx (ix3 n s 0)).toInt.toNat 3, by omega⟩ ch ⟨min (idx (ix3 n s 1)).toInt.toNat 4095, by omega⟩) := by
  unfold Host.gather
  congr 1
  funext a
  refine Fin.ext ?_
  show gather_S4x256x4096_S1000x196x2_S1000x196x256_2_02_n_n_02_2_12561.start (ix3 n s ch) idx a
      + gather_S4x256x4096_S1000x196x2_S1000x196x256_2_02_n_n_02_2_12561.batchCoord (ix3 n s ch) a
      + gather_S4x256x4096_S1000x196x2_S1000x196x256_2_02_n_n_02_2_12561.offCoord (ix3 n s ch) a = _
  rw [GatherDims.batchCoord_eq_zero _ _ _ (List.not_mem_nil)]
  have h012 : a = 0 ∨ a = 1 ∨ a = 2 := by
    match a with
    | ⟨0, _⟩ => exact Or.inl rfl
    | ⟨1, _⟩ => exact Or.inr (Or.inl rfl)
    | ⟨2, _⟩ => exact Or.inr (Or.inr rfl)
  rcases h012 with rfl | rfl | rfl
  · rw [GatherDims.offCoord_eq_zero _ _ _ (by decide)]
    unfold GatherDims.start
    rw [dif_pos (by decide)]
    have hsi : gather_S4x256x4096_S1000x196x2_S1000x196x256_2_02_n_n_02_2_12561.siIdx (ix3 n s ch) ⟨0, by decide⟩ = ix3 n s 0 := by
      funext b; refine Fin.ext ?_
      match b with
      | ⟨0, _⟩ => rfl
      | ⟨1, _⟩ => rfl
      | ⟨2, _⟩ => rfl
    exact congrArg (fun i => min (idx i).toInt.toNat 3) hsi
  · unfold GatherDims.start
    rw [dif_neg (by decide)]
    unfold GatherDims.offCoord
    rw [dif_pos (by decide)]
    exact (Nat.zero_add _).trans rfl
  · rw [GatherDims.offCoord_eq_zero _ _ _ (by decide)]
    unfold GatherDims.start
    rw [dif_pos (by decide)]
    have hsi : gather_S4x256x4096_S1000x196x2_S1000x196x256_2_02_n_n_02_2_12561.siIdx (ix3 n s ch) ⟨1, by decide⟩ = ix3 n s 1 := by
      funext b; refine Fin.ext ?_
      match b with
      | ⟨0, _⟩ => rfl
      | ⟨1, _⟩ => rfl
      | ⟨2, _⟩ => rfl
    exact congrArg (fun i => min (idx i).toInt.toNat 4095) hsi

/-- A negative index would be moved up by the extent; an index in range is kept. -/
theorem wrap_eq (b e : BitVec 32) (h : 0 ≤ b.toInt) :
    Scalar.select (IntOp.cmpi .slt b 0#32) (IntOp.addi b e) b = b := by
  have hc : IntOp.cmpi .slt b 0#32 = 0#1 := by
    have h0 : (0#32).toInt = 0 := rfl
    show BitVec.ofBool (b.slt 0#32) = 0#1
    rw [BitVec.slt, decide_eq_false (by omega)]; rfl
  rw [hc]; rfl

/-- A pixel's number from its row and its column, as words. -/
theorem pixel_word (y x : Fin 64) :
    IntOp.addi (IntOp.muli (BitVec.ofNat 32 y.val) 64#32) (BitVec.ofNat 32 x.val) = BitVec.ofNat 32 (y.val * 64 + x.val) := by
  show BitVec.ofNat 32 y.val * BitVec.ofNat 32 64 + BitVec.ofNat 32 x.val = _
  rw [← BitVec.ofNat_mul, ← BitVec.ofNat_add]

/-- The gather at a picture in range and a pixel, both index words as the reference makes them. -/
theorem gather_pixel (x0 : Vec Ideal S4x256x64x64 .f32) (idx : IVec S1000x196x2 32) (n : Fin 1000) (s : Fin 196) (ch : Fin 256)
    (w e e' yw xw : BitVec 32) (b : Fin 4) (y x : Fin 64) (hw : w.toInt = b.val)
    (hyw : yw = BitVec.ofNat 32 y.val) (hxw : xw = BitVec.ofNat 32 x.val)
    (h0 : idx (ix3 n s 0) = Scalar.select (IntOp.cmpi .slt w 0#32) (IntOp.addi w e) w)
    (h1 : idx (ix3 n s 1) = Scalar.select (IntOp.cmpi .slt (IntOp.addi (IntOp.muli yw 64#32) xw) 0#32)
      (IntOp.addi (IntOp.addi (IntOp.muli yw 64#32) xw) e') (IntOp.addi (IntOp.muli yw 64#32) xw)) :
    Host.gather gather_S4x256x4096_S1000x196x2_S1000x196x256_2_02_n_n_02_2_12561 (Read.val_main_v120 (F := Ideal) x0) idx (ix3 n s ch)
      = x0 (ix4 b ch y x) := by
  have i0 : (idx (ix3 n s 0)).toInt = b.val := by rw [h0, wrap_eq w e (by omega), hw]
  have i1 : (idx (ix3 n s 1)).toInt = ((y.val * 64 + x.val : ℕ) : ℤ) := by
    rw [h1, hyw, hxw, pixel_word, wrap_eq _ e' (by rw [ofNat_toInt _ (by omega)]; omega), ofNat_toInt _ (by omega)]
  have hx : Host.gather gather_S4x256x4096_S1000x196x2_S1000x196x256_2_02_n_n_02_2_12561 (Read.val_main_v120 (F := Ideal) x0) idx (ix3 n s ch)
      = Read.val_main_v120 (F := Ideal) x0 (ix3 b ch ⟨y.val * 64 + x.val, by omega⟩) :=
    (gather_apply _ idx n s ch).trans (congrArg₂ (fun p q => Read.val_main_v120 (F := Ideal) x0 (ix3 p ch q))
      (Fin.ext (by show min (idx (ix3 n s 0)).toInt.toNat 3 = b.val; omega))
      (Fin.ext (by show min (idx (ix3 n s 1)).toInt.toNat 4095 = y.val * 64 + x.val; omega)))
  rw [hx]
  pointwise [Read.val_main_v120]

end Cert.RoiAlign

end
-- ==== Proof.RefValue.lean ====
/-
  What the reference computes: the mean of the four samples of a bin, each sample the bilinear interpolation of the four
  pixels around it, or nothing where it lies outside the picture.
-/
module

public import proofs.«01_k».proof.Proof.RefCoords
public import proofs.«01_k».proof.Proof.RefAxis
public import proofs.«01_k».proof.Proof.RefGather
public import proofs.«01_k».proof.Proof.Value

@[expose] public section

set_option maxRecDepth 16384

noncomputable section

namespace Cert.RoiAlign

open Idealize.ShloMosaic Cert.ReferenceIdeal

/-- The lower row of a sample. -/
theorem ref_lo_y (x1 : Vec Ideal S1000x5 .f32) (n : Fin 1000) (s : Fin 196) :
    Read.val_main_v102 (F := Ideal) x1 (ix2 n s) = loWord (Read.val_main_v77 (F := Ideal) x1 (ix2 n s)) := by
  pointwise [
    Read.val_main_v102, Read.val_main_v99, Read.val_main_v98, Read.val_main_c, Read.val_main_v95, Read.val_main_v94, Read.val_main_v91,
    Read.val_main_v90, Read.val_main_cst_15, Read.val_main_call0_v1, Read.val_main_call0_v0, Read.val_main_c_18]
  rfl

/-- The lower column of a sample. -/
theorem ref_lo_x (x1 : Vec Ideal S1000x5 .f32) (n : Fin 1000) (s : Fin 196) :
    Read.val_main_v103 (F := Ideal) x1 (ix2 n s) = loWord (Read.val_main_v78 (F := Ideal) x1 (ix2 n s)) := by
  pointwise [
    Read.val_main_v103, Read.val_main_v97, Read.val_main_v96, Read.val_main_v93, Read.val_main_v92, Read.val_main_cst_16, Read.val_main_v101,
    Read.val_main_v100, Read.val_main_c_17, Read.val_main_call1_v1, Read.val_main_call1_v0, Read.val_main_c_19]
  rfl

/-- The upper row of a sample. -/
theorem ref_hi_y (x1 : Vec Ideal S1000x5 .f32) (n : Fin 1000) (s : Fin 196) :
    Read.val_main_v106 (F := Ideal) x1 (ix2 n s) = hiWord (Read.val_main_v77 (F := Ideal) x1 (ix2 n s)) := by
  pointwise [
    Read.val_main_v106, Read.val_main_v99, Read.val_main_v98, Read.val_main_c, Read.val_main_v95, Read.val_main_v94, Read.val_main_v91,
    Read.val_main_v90, Read.val_main_cst_15, Read.val_main_v105, Read.val_main_v104, Read.val_main_c_20, Read.val_main_v102, Read.val_main_call0_v1,
    Read.val_main_call0_v0, Read.val_main_c_18, Read.val_main_call2_v1, Read.val_main_call2_v0, Read.val_main_c_21]
  rfl

/-- The upper column of a sample. -/
theorem ref_hi_x (x1 : Vec Ideal S1000x5 .f32) (n : Fin 1000) (s : Fin 196) :
    Read.val_main_v109 (F := Ideal) x1 (ix2 n s) = hiWord (Read.val_main_v78 (F := Ideal) x1 (ix2 n s)) := by
  pointwise [
    Read.val_main_v109, Read.val_main_v108, Read.val_main_v107, Read.val_main_c_22, Read.val_main_v103, Read.val_main_v97, Read.val_main_v96,
    Read.val_main_v93, Read.val_main_v92, Read.val_main_cst_16, Read.val_main_v101, Read.val_main_v100, Read.val_main_c_17, Read.val_main_call1_v1,
    Read.val_main_call1_v0, Read.val_main_c_19, Read.val_main_call3_v1, Read.val_main_call3_v0, Read.val_main_c_23]
  rfl

/-- The fraction between the rows. -/
theorem ref_fr_y (x1 : Vec Ideal S1000x5 .f32) (n : Fin 1000) (s : Fin 196) :
    Read.val_main_v112 (F := Ideal) x1 (ix2 n s) = fraction (Read.val_main_v77 (F := Ideal) x1 (ix2 n s)) := by
  pointwise [
    Read.val_main_v112, Read.val_main_v99, Read.val_main_v98, Read.val_main_c, Read.val_main_v95, Read.val_main_v94, Read.val_main_v91,
    Read.val_main_v90, Read.val_main_cst_15, Read.val_main_v111, Read.val_main_v110, Read.val_main_v102, Read.val_main_call0_v1,
    Read.val_main_call0_v0, Read.val_main_c_18, Read.val_main_call4_v1, Read.val_main_call4_v0, Read.val_main_cst_24]
  rw [show (id (constant (F := Ideal) S_ FTy.f32 0#32) ix0 : EReal) = 0 from Ideal.ofBits_zero_f32]
  rfl

/-- The fraction between the columns. -/
theorem ref_fr_x (x1 : Vec Ideal S1000x5 .f32) (n : Fin 1000) (s : Fin 196) :
    Read.val_main_v115 (F := Ideal) x1 (ix2 n s) = fraction (Read.val_main_v78 (F := Ideal) x1 (ix2 n s)) := by
  pointwise [
    Read.val_main_v115, Read.val_main_v114, Read.val_main_v93, Read.val_main_v92, Read.val_main_cst_16, Read.val_main_v113, Read.val_main_v103,
    Read.val_main_v97, Read.val_main_v96, Read.val_main_v101, Read.val_main_v100, Read.val_main_c_17, Read.val_main_call1_v1, Read.val_main_call1_v0,
    Read.val_main_c_19, Read.val_main_call5_v1, Read.val_main_call5_v0, Read.val_main_cst_25]
  rw [show (id (constant (F := Ideal) S_ FTy.f32 0#32) ix0 : EReal) = 0 from Ideal.ofBits_zero_f32]
  rfl

/-- The lower left pixel. -/
theorem ref_pixel_ll (x0 : Vec Ideal S4x256x64x64 .f32) (x1 : Vec Ideal S1000x5 .f32) (hx : InRange x1) (n : Fin 1000) (s : Fin 196) (ch : Fin 256)
    (y x : Fin 64) (hy : Read.val_main_v102 (F := Ideal) x1 (ix2 n s) = BitVec.ofNat 32 y.val) (hxx : Read.val_main_v103 (F := Ideal) x1 (ix2 n s) = BitVec.ofNat 32 x.val) :
    Read.val_main_v150 (F := Ideal) x0 x1 (ix3 n s ch) = x0 (ix4 (batch x1 n) ch y x) := by
  refine gather_pixel x0 _ n s ch (FloatOps.fptosi (F := Ideal) (φ := .f32) 32 (x1 (ix2 n 0))) 4#32 4096#32 _ _ (batch x1 n) y x
    (batch_val hx n).symm hy hxx ?_ ?_
  · pointwise [
    Read.val_main_v149, Read.val_main_v148, Read.val_main_v146, Read.val_main_v145, Read.val_main_v144, Read.val_main_c_35, Read.val_main_v125,
    Read.val_main_v124, Read.val_main_v123, Read.val_main_c_28, Read.val_main_v143, Read.val_main_v142, Read.val_main_c_34, Read.val_main_v147,
    Read.val_main_v141, Read.val_main_v140, Read.val_main_v139, Read.val_main_c_33, Read.val_main_v122, Read.val_main_v121, Read.val_main_v2,
    Read.val_main_v1, Read.val_main_v0, Read.val_main_v138, Read.val_main_v137, Read.val_main_c_32]
  · pointwise [
    Read.val_main_v149, Read.val_main_v148, Read.val_main_v146, Read.val_main_v145, Read.val_main_v144, Read.val_main_c_35, Read.val_main_v125,
    Read.val_main_v124, Read.val_main_v123, Read.val_main_c_28, Read.val_main_v143, Read.val_main_v142, Read.val_main_c_34, Read.val_main_v147,
    Read.val_main_v141, Read.val_main_v140, Read.val_main_v139, Read.val_main_c_33, Read.val_main_v122, Read.val_main_v121, Read.val_main_v2,
    Read.val_main_v1, Read.val_main_v0, Read.val_main_v138, Read.val_main_v137, Read.val_main_c_32]

/-- The lower right pixel. -/
theorem ref_pixel_lr (x0 : Vec Ideal S4x256x64x64 .f32) (x1 : Vec Ideal S1000x5 .f32) (hx : InRange x1) (n : Fin 1000) (s : Fin 196) (ch : Fin 256)
    (y x : Fin 64) (hy : Read.val_main_v102 (F := Ideal) x1 (ix2 n s) = BitVec.ofNat 32 y.val) (hxx : Read.val_main_v109 (F := Ideal) x1 (ix2 n s) = BitVec.ofNat 32 x.val) :
    Read.val_main_v168 (F := Ideal) x0 x1 (ix3 n s ch) = x0 (ix4 (batch x1 n) ch y x) := by
  refine gather_pixel x0 _ n s ch (FloatOps.fptosi (F := Ideal) (φ := .f32) 32 (x1 (ix2 n 0))) 4#32 4096#32 _ _ (batch x1 n) y x
    (batch_val hx n).symm hy hxx ?_ ?_
  · pointwise [
    Read.val_main_v167, Read.val_main_v166, Read.val_main_v164, Read.val_main_v163, Read.val_main_v162, Read.val_main_c_39, Read.val_main_v128,
    Read.val_main_v127, Read.val_main_v126, Read.val_main_c_29, Read.val_main_v161, Read.val_main_v160, Read.val_main_c_38, Read.val_main_v165,
    Read.val_main_v159, Read.val_main_v158, Read.val_main_v157, Read.val_main_c_37, Read.val_main_v122, Read.val_main_v121, Read.val_main_v2,
    Read.val_main_v1, Read.val_main_v0, Read.val_main_v156, Read.val_main_v155, Read.val_main_c_36]
  · pointwise [
    Read.val_main_v167, Read.val_main_v166, Read.val_main_v164, Read.val_main_v163, Read.val_main_v162, Read.val_main_c_39, Read.val_main_v128,
    Read.val_main_v127, Read.val_main_v126, Read.val_main_c_29, Read.val_main_v161, Read.val_main_v160, Read.val_main_c_38, Read.val_main_v165,
    Read.val_main_v159, Read.val_main_v158, Read.val_main_v157, Read.val_main_c_37, Read.val_main_v122, Read.val_main_v121, Read.val_main_v2,
    Read.val_main_v1, Read.val_main_v0, Read.val_main_v156, Read.val_main_v155, Read.val_main_c_36]

/-- The upper left pixel. -/
theorem ref_pixel_ul (x0 : Vec Ideal S4x256x64x64 .f32) (x1 : Vec Ideal S1000x5 .f32) (hx : InRange x1) (n : Fin 1000) (s : Fin 196) (ch : Fin 256)
    (y x : Fin 64) (hy : Read.val_main_v106 (F := Ideal) x1 (ix2 n s) = BitVec.ofNat 32 y.val) (hxx : Read.val_main_v103 (F := Ideal) x1 (ix2 n s) = BitVec.ofNat 32 x.val) :
    Read.val_main_v187 (F := Ideal) x0 x1 (ix3 n s ch) = x0 (ix4 (batch x1 n) ch y x) := by
  refine gather_pixel x0 _ n s ch (FloatOps.fptosi (F := Ideal) (φ := .f32) 32 (x1 (ix2 n 0))) 4#32 4096#32 _ _ (batch x1 n) y x
    (batch_val hx n).symm hy hxx ?_ ?_
  · pointwise [
    Read.val_main_v186, Read.val_main_v185, Read.val_main_v183, Read.val_main_v182, Read.val_main_v181, Read.val_main_c_43, Read.val_main_v131,
    Read.val_main_v130, Read.val_main_v129, Read.val_main_c_30, Read.val_main_v180, Read.val_main_v179, Read.val_main_c_42, Read.val_main_v184,
    Read.val_main_v178, Read.val_main_v177, Read.val_main_v176, Read.val_main_c_41, Read.val_main_v122, Read.val_main_v121, Read.val_main_v2,
    Read.val_main_v1, Read.val_main_v0, Read.val_main_v175, Read.val_main_v174, Read.val_main_c_40]
  · pointwise [
    Read.val_main_v186, Read.val_main_v185, Read.val_main_v183, Read.val_main_v182, Read.val_main_v181, Read.val_main_c_43, Read.val_main_v131,
    Read.val_main_v130, Read.val_main_v129, Read.val_main_c_30, Read.val_main_v180, Read.val_main_v179, Read.val_main_c_42, Read.val_main_v184,
    Read.val_main_v178, Read.val_main_v177, Read.val_main_v176, Read.val_main_c_41, Read.val_main_v122, Read.val_main_v121, Read.val_main_v2,
    Read.val_main_v1, Read.val_main_v0, Read.val_main_v175, Read.val_main_v174, Read.val_main_c_40]

/-- The upper right pixel. -/
theorem ref_pixel_ur (x0 : Vec Ideal S4x256x64x64 .f32) (x1 : Vec Ideal S1000x5 .f32) (hx : InRange x1) (n : Fin 1000) (s : Fin 196) (ch : Fin 256)
    (y x : Fin 64) (hy : Read.val_main_v106 (F := Ideal) x1 (ix2 n s) = BitVec.ofNat 32 y.val) (hxx : Read.val_main_v109 (F := Ideal) x1 (ix2 n s) = BitVec.ofNat 32 x.val) :
    Read.val_main_v206 (F := Ideal) x0 x1 (ix3 n s ch) = x0 (ix4 (batch x1 n) ch y x) := by
  refine gather_pixel x0 _ n s ch (FloatOps.fptosi (F := Ideal) (φ := .f32) 32 (x1 (ix2 n 0))) 4#32 4096#32 _ _ (batch x1 n) y x
    (batch_val hx n).symm hy hxx ?_ ?_
  · pointwise [
    Read.val_main_v205, Read.val_main_v204, Read.val_main_v202, Read.val_main_v201, Read.val_main_v200, Read.val_main_c_47, Read.val_main_v134,
    Read.val_main_v133, Read.val_main_v132, Read.val_main_c_31, Read.val_main_v199, Read.val_main_v198, Read.val_main_c_46, Read.val_main_v203,
    Read.val_main_v197, Read.val_main_v196, Read.val_main_v195, Read.val_main_c_45, Read.val_main_v122, Read.val_main_v121, Read.val_main_v2,
    Read.val_main_v1, Read.val_main_v0, Read.val_main_v194, Read.val_main_v193, Read.val_main_c_44]
  · pointwise [
    Read.val_main_v205, Read.val_main_v204, Read.val_main_v202, Read.val_main_v201, Read.val_main_v200, Read.val_main_c_47, Read.val_main_v134,
    Read.val_main_v133, Read.val_main_v132, Read.val_main_c_31, Read.val_main_v199, Read.val_main_v198, Read.val_main_c_46, Read.val_main_v203,
    Read.val_main_v197, Read.val_main_v196, Read.val_main_v195, Read.val_main_c_45, Read.val_main_v122, Read.val_main_v121, Read.val_main_v2,
    Read.val_main_v1, Read.val_main_v0, Read.val_main_v194, Read.val_main_v193, Read.val_main_c_44]

/-- The reference's four comparisons of a sample with the picture's border, joined. -/
theorem masks (Y X : EReal) [Decidable (Valid Y ∧ Valid X)] :
    IntOp.andi (IntOp.andi (IntOp.andi (BitVec.ofBool (decide (((-1 : ℝ) : EReal) ≤ Y))) (BitVec.ofBool (decide (Y ≤ ((64 : ℝ) : EReal)))))
        (BitVec.ofBool (decide (((-1 : ℝ) : EReal) ≤ X)))) (BitVec.ofBool (decide (X ≤ ((64 : ℝ) : EReal))))
      = BitVec.ofBool (decide (Valid Y ∧ Valid X)) := by
  have e : ∀ (p q r t : Prop) [Decidable p] [Decidable q] [Decidable r] [Decidable t] [Decidable ((p ∧ q) ∧ (r ∧ t))],
      IntOp.andi (IntOp.andi (IntOp.andi (BitVec.ofBool (decide p)) (BitVec.ofBool (decide q))) (BitVec.ofBool (decide r)))
          (BitVec.ofBool (decide t)) = BitVec.ofBool (decide ((p ∧ q) ∧ (r ∧ t))) := by
    intro p q r t _ _ _ _ _
    by_cases a : p <;> by_cases b : q <;> by_cases c : r <;> by_cases d : t <;> simp [a, b, c, d, IntOp.andi]
  exact @e _ _ _ _ _ _ _ _ ‹_›

open Classical in
/-- One sample of the reference. -/
theorem ref_sample (x0 : Vec Ideal S4x256x64x64 .f32) (x1 : Vec Ideal S1000x5 .f32) (hx : InRange x1) (n : Fin 1000) (s : Fin 196) (ch : Fin 256) :
    Read.val_main_v211 (F := Ideal) x0 x1 (ix3 n s ch)
      = sample (Read.val_main_v77 (F := Ideal) x1 (ix2 n s)) (Read.val_main_v78 (F := Ideal) x1 (ix2 n s))
          (fun y x => x0 (ix4 (batch x1 n) ch y x)) := by
  pointwise [
    Read.val_main_v211, Read.val_main_v209, Read.val_main_v208, Read.val_main_v207, Read.val_main_v192, Read.val_main_v191, Read.val_main_v190,
    Read.val_main_v189, Read.val_main_v188, Read.val_main_v173, Read.val_main_v172, Read.val_main_v119, Read.val_main_v118, Read.val_main_cst_27,
    Read.val_main_v171, Read.val_main_v170, Read.val_main_v169, Read.val_main_v154, Read.val_main_v153, Read.val_main_v117, Read.val_main_v116,
    Read.val_main_cst_26, Read.val_main_v152, Read.val_main_v151, Read.val_main_v136, Read.val_main_v135, Read.val_main_call6_v2,
    Read.val_main_call6_v0, Read.val_main_cst_48, Read.val_main_call6_v1, Read.val_main_v210, Read.val_main_v89, Read.val_main_v88, Read.val_main_v87,
    Read.val_main_cst_14, Read.val_main_v86, Read.val_main_v85, Read.val_main_v84, Read.val_main_cst_13, Read.val_main_v83, Read.val_main_v82,
    Read.val_main_v81, Read.val_main_cst_12, Read.val_main_v80, Read.val_main_v79, Read.val_main_cst_11]
  rw [show (id (constant (F := Ideal) S_ FTy.f32 0#32) ix0 : EReal) = 0 from Ideal.ofBits_zero_f32]
  rw [show Ideal.ofBits FTy.f32 3212836864#32 = ((-1 : ℝ) : EReal) from bits_neg1,
    show Ideal.ofBits FTy.f32 1115684864#32 = ((64 : ℝ) : EReal) from bits_64, masks]
  by_cases hy : Valid (Read.val_main_v77 (F := Ideal) x1 (ix2 n s))
  · by_cases hz : Valid (Read.val_main_v78 (F := Ideal) x1 (ix2 n s))
    · obtain ⟨ya, yb, yc⟩ := axis_words hy
      obtain ⟨xa, xb, xc⟩ := axis_words hz
      rw [ref_fr_y, ref_fr_x, yc, xc,
        ref_pixel_ll x0 x1 hx n s ch _ _ ((ref_lo_y x1 n s).trans ya) ((ref_lo_x x1 n s).trans xa),
        ref_pixel_lr x0 x1 hx n s ch _ _ ((ref_lo_y x1 n s).trans ya) ((ref_hi_x x1 n s).trans xb),
        ref_pixel_ul x0 x1 hx n s ch _ _ ((ref_hi_y x1 n s).trans yb) ((ref_lo_x x1 n s).trans xa),
        ref_pixel_ur x0 x1 hx n s ch _ _ ((ref_hi_y x1 n s).trans yb) ((ref_hi_x x1 n s).trans xb)]
      unfold sample
      rw [if_pos ⟨hy, hz⟩, decide_eq_true (show Valid _ ∧ Valid _ from ⟨hy, hz⟩)]
      simp only [corners, ← EReal.coe_one, ← EReal.coe_sub, ← EReal.coe_mul]
      rfl
    · unfold sample
      rw [if_neg fun h => hz h.2, decide_eq_false (show ¬(Valid _ ∧ Valid _) from fun h => hz h.2)]
      rfl
  · unfold sample
    rw [if_neg fun h => hy h.1, decide_eq_false (show ¬(Valid _ ∧ Valid _) from fun h => hy h.1)]
    rfl

/-- Sample `(iy, ix)` of bin `(ph, pw)` in the order in which the reference lists a box's samples. -/
def place (ph pw : Fin 7) (iy ix : Fin 2) : Fin 196 := ⟨((ph.val * 7 + pw.val) * 2 + iy.val) * 2 + ix.val, by omega⟩

/-- One sample of the reference, by bin and place in the bin. -/
theorem ref_place (x0 : Vec Ideal S4x256x64x64 .f32) (x1 : Vec Ideal S1000x5 .f32) (hx : InRange x1) (n : Fin 1000) (ch : Fin 256)
    (ph pw : Fin 7) (iy ix : Fin 2) :
    Read.val_main_v211 (F := Ideal) x0 x1 (ix3 n (place ph pw iy ix) ch)
      = sample (coord (x1 (ix2 n 2)) (x1 (ix2 n 4)) ph.val iy.val) (coord (x1 (ix2 n 1)) (x1 (ix2 n 3)) pw.val ix.val)
          (fun y x => x0 (ix4 (batch x1 n) ch y x)) := by
  rw [ref_sample x0 x1 hx, ref_y, ref_x]
  have e : (place ph pw iy ix).val = ((ph.val * 7 + pw.val) * 2 + iy.val) * 2 + ix.val := rfl
  rw [e, show (((ph.val * 7 + pw.val) * 2 + iy.val) * 2 + ix.val) / 28 = ph.val by omega,
    show (((ph.val * 7 + pw.val) * 2 + iy.val) * 2 + ix.val) / 2 % 2 = iy.val by omega,
    show (((ph.val * 7 + pw.val) * 2 + iy.val) * 2 + ix.val) / 4 % 7 = pw.val by omega,
    show (((ph.val * 7 + pw.val) * 2 + iy.val) * 2 + ix.val) % 2 = ix.val by omega]

/-- The reference's result is the tent-weighted sum over the pixels. -/
theorem ref_value (x0 : Vec Ideal S4x256x64x64 .f32) (x1 : Vec Ideal S1000x5 .f32) (hx : InRange x1) :
    Read.val_main_v216 (F := Ideal) x0 x1 = result x0 x1 := by
  funext i
  obtain ⟨n, ch, ph, pw, rfl⟩ : ∃ (n : Fin 1000) (ch : Fin 256) (ph pw : Fin 7), i = ix4 n ch ph pw :=
    ⟨i 0, i 1, i 2, i 3, by funext a; fin_cases a <;> rfl⟩
  show _ = pooled (fun s => coord (x1 (ix2 n 2)) (x1 (ix2 n 4)) ph.val s.val)
    (fun s => coord (x1 (ix2 n 1)) (x1 (ix2 n 3)) pw.val s.val) fun y x => x0 (ix4 (batch x1 n) ch y x)
  rw [pool_eq]
  have p := ref_place x0 x1 hx n ch ph pw
  rw [← p 0 0, ← p 0 1, ← p 1 0, ← p 1 1]
  generalize hv : Read.val_main_v211 (F := Ideal) x0 x1 = v
  pointwise [
    Read.val_main_v216, Read.val_main_v215, Read.val_main_v214, Read.val_main_cst_50, Read.val_main_v213, Read.val_main_v212, Read.val_main_cst_49]
  rw [hv, Fin.sum_univ_four, show Ideal.ofBits FTy.f32 1082130432#32 = ((4 : ℝ) : EReal) from bits_4,
    Ideal.div_coe (by norm_num : (4 : ℝ) ≠ 0)]
  refine congrArg₂ (· * ·) (congrArg₂ (· + ·) (congrArg₂ (· + ·) (congrArg₂ (· + ·) ?_ ?_) ?_) ?_) ?_
  · exact congrArg v (congrArg (ix3 n · ch) (Fin.ext (by simp [place]; omega)))
  · exact congrArg v (congrArg (ix3 n · ch) (Fin.ext (by simp [place]; omega)))
  · exact congrArg v (congrArg (ix3 n · ch) (Fin.ext (by simp [place]; omega)))
  · exact congrArg v (congrArg (ix3 n · ch) (Fin.ext (by simp [place]; omega)))
  · norm_num

end Cert.RoiAlign

end
-- ==== Proof.Pre.lean ====
/-
  The precondition, read at one box: the word of its first column is one of 0, 1, 2, 3.
-/
module

public import proofs.«01_k».proof.Pre_batch_in_range
public import proofs.«01_k».proof.Proof.Value

@[expose] public section

noncomputable section

namespace Cert.RoiAlign

open Idealize.ShloMosaic

/-- The shapes of the precondition's slice and broadcast fit. -/
theorem preFacts : Cert.Pre_batch_in_range.Facts := ⟨by decide, by decide⟩

/-- Two joined comparisons of a word are one only where the word lies from 0 to 3. -/
theorem word_range (w : BitVec 32) (h : IntOp.andi (IntOp.cmpi .sge w 0#32) (IntOp.cmpi .slt w 4#32) = 1#1) : 0 ≤ w.toInt ∧ w.toInt < 4 := by
  have h0 : (0#32).toInt = 0 := rfl
  have h4 : (4#32).toInt = 4 := rfl
  change BitVec.ofBool ((0#32).sle w) &&& BitVec.ofBool (w.slt 4#32) = 1#1 at h
  rw [BitVec.sle_eq_decide, BitVec.slt_eq_decide, h0, h4] at h
  by_cases a : (0 : ℤ) ≤ w.toInt <;> by_cases b : w.toInt < 4 <;> simp_all

/-- Where the precondition is all ones, every box names one of the four pictures. -/
theorem inRange_of_pre [Cert.Pre_batch_in_range.Facts] (x0 : Vec Ideal ⟨4, ![4, 256, 64, 64]⟩ .f32) (x1 : Vec Ideal ⟨2, ![1000, 5]⟩ .f32)
    (h : Cert.Pre_batch_in_range.fn (F := Ideal) x0 x1 = fun _ => 1#1) : InRange x1 := by
  intro n
  have e := congrFun h (ix2 n 0)
  refine word_range _ (Eq.trans ?_ e)
  symm
  pointwise [Cert.Pre_batch_in_range.fn]

end Cert.RoiAlign

end
-- ==== Proof.lean ====
/-
  The proof of `Cert.Claim`. The kernel and its reference run to the end, leave their arguments alone and return their
  semaphore counters to zero; where every box names one of the four pictures, they return the same array of extended
  reals. Both arrays are `Cert.RoiAlign.result` of the arguments (Proof/Value.lean): the kernel's by
  `kernel_value` (Proof/KernelValue.lean), the reference's by `ref_value` (Proof/RefValue.lean).
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.KernelValue
public import proofs.«01_k».proof.Proof.RefValue
public import proofs.«01_k».proof.Proof.Pre
public import Idealize.ShloMosaic.Adequacy
public import Idealize.ShloMosaic.Init

@[expose] public section

noncomputable section

namespace Cert.Proof

open Idealize.ShloMosaic Idealize.ShloMosaic.TcCoe Idealize.SL.Sem Cert.RoiAlign

/-- The reference runs to the end, its arguments unchanged, and it has no semaphores. -/
theorem reference_frame (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩
      (fun r => (∀ c : Dev Cert.ReferenceIdeal.nD,
        r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
        ∧ r.2.sem = fun _ => 0) :=
  (θ_run _ _ _).mono (fun r h => ⟨fun c => (h c).2, sem_eq_zero_of_no_sems (by decide) r.2⟩) (Cert.ReferenceIdeal.Value.run (F := Ideal) m g)

/-- Where every box names a picture, the kernel returns the value and leaves its arguments alone. -/
theorem kernel_run (m : (ℓ : Loc Cert.KernelIdeal.nD Cert.KernelIdeal.τ Cert.KernelIdeal.sig) → Buf (Elt Ideal) ℓ)
    (g : Dev Cert.KernelIdeal.nD → PrngReg)
    (hx : ∀ c : Dev Cert.KernelIdeal.nD, InRange (m ((c.tc : Thread Cert.KernelIdeal.nD Cert.KernelIdeal.τ).loc Cert.KernelIdeal.main_arg1))) :
    θ_run (Cert.KernelIdeal.defs (F := Ideal)) (onTc (τ := Cert.KernelIdeal.τ) (Cert.KernelIdeal.main (F := Ideal))) ⟨m, fun _ => 0, g⟩
      (fun r => ∀ c : Dev Cert.KernelIdeal.nD,
        r.2.mem ((c.tc : Thread Cert.KernelIdeal.nD Cert.KernelIdeal.τ).loc Cert.KernelIdeal.main_v19)
          = result (m ((c.tc : Thread Cert.KernelIdeal.nD Cert.KernelIdeal.τ).loc Cert.KernelIdeal.main_arg0)) (m ((c.tc : Thread Cert.KernelIdeal.nD Cert.KernelIdeal.τ).loc Cert.KernelIdeal.main_arg1))
        ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)) :=
  (θ_run _ _ _).mono
    (fun _ h c => ⟨((h.1 c).2 Cert.KernelIdeal.main_v19 (Pipeline.mem_restRefs_of Cert.KernelIdeal.main_v19 (by decide) (by decide))).trans (kernel_value m c (hx c)), h.2 c⟩)
    (θ_run_and (Cert.KernelIdeal.Gen.run_main (F := Ideal) m g) (Cert.KernelIdeal.Gen.unchanged (F := Ideal) m g))

/-- Where every box names a picture, the reference returns the value and leaves its arguments alone. -/
theorem reference_run (m : (ℓ : Loc Cert.ReferenceIdeal.nD Cert.ReferenceIdeal.τ Cert.ReferenceIdeal.sig) → Buf (Elt Ideal) ℓ)
    (g : Dev Cert.ReferenceIdeal.nD → PrngReg)
    (hx : ∀ c : Dev Cert.ReferenceIdeal.nD, InRange (m ((c.tc : Thread Cert.ReferenceIdeal.nD Cert.ReferenceIdeal.τ).loc Cert.ReferenceIdeal.main_arg1))) :
    θ_run (Cert.ReferenceIdeal.defs (F := Ideal)) (onTc (τ := Cert.ReferenceIdeal.τ) (Cert.ReferenceIdeal.main (F := Ideal))) ⟨m, fun _ => 0, g⟩
      (fun r => ∀ c : Dev Cert.ReferenceIdeal.nD,
        r.2.mem ((c.tc : Thread Cert.ReferenceIdeal.nD Cert.ReferenceIdeal.τ).loc Cert.ReferenceIdeal.main_v216)
          = result (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))
        ∧ r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)) :=
  (θ_run _ _ _).mono
    (fun _ h c => ⟨(h c).1.trans ((Cert.ReferenceIdeal.Read.val_main_v216_eq (F := Ideal) _).trans (ref_value _ _ (hx c))), (h c).2⟩)
    (Cert.ReferenceIdeal.Value.run (F := Ideal) m g)

/-- The claim: the runs, and the equality of the two results where every box names a picture. -/
theorem claim : Cert.Claim := by
  refine ⟨Cert.Kernel.Gen.facts, Cert.KernelIdeal.Gen.facts, Cert.ReferenceIdeal.Gen.facts, preFacts,
    fun m g _ => Cert.Kernel.Gen.frame m g, fun m g _ => Cert.KernelIdeal.Gen.frame m g, fun m g _ => Cert.KernelIdeal.Gen.frame m g,
    fun m g _ => reference_frame m g, fun m g _ => reference_frame m g, trivial, ?_⟩
  haveI := preFacts
  intro m g m' g' hpre hagree
  have hx : ∀ c : Dev Cert.KernelIdeal.nD, InRange (m ((c.tc : Thread Cert.KernelIdeal.nD Cert.KernelIdeal.τ).loc Cert.KernelIdeal.main_arg1)) :=
    fun c => inRange_of_pre _ _ (hpre c)
  refine ⟨fun c => result (m ((c.tc : Thread Cert.KernelIdeal.nD Cert.KernelIdeal.τ).loc Cert.KernelIdeal.main_arg0))
    (m ((c.tc : Thread Cert.KernelIdeal.nD Cert.KernelIdeal.τ).loc Cert.KernelIdeal.main_arg1)), kernel_run m g hx, ?_⟩
  refine (θ_run _ _ _).mono (fun _ h c => ⟨(h c).1.trans ?_, (h c).2⟩)
    (reference_run m' g' fun c => by rw [(hagree c).2]; exact hx c)
  exact congrArg₂ result (hagree c).1 (hagree c).2

end Cert.Proof

end
